-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 2, 128]⟩ ⟨4, ![1, 16384, 2, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 2, 128]⟩ ⟨4, ![1, 16384, 2, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S1x4096x2x128 : Shape := ⟨4, ![1, 4096, 2, 128]⟩
abbrev S4096x256 : Shape := ⟨2, ![4096, 256]⟩
abbrev S4x256x1024 : Shape := ⟨3, ![4, 256, 1024]⟩
abbrev S4x256x16 : Shape := ⟨3, ![4, 256, 16]⟩
abbrev S4 : Shape := ⟨1, ![4]⟩
abbrev S3 : Shape := ⟨1, ![3]⟩
abbrev S_ : Shape := ⟨0, ![]⟩
abbrev S256x1024 : Shape := ⟨2, ![256, 1024]⟩
abbrev S4096x128 : Shape := ⟨2, ![4096, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S256x8 : Shape := ⟨2, ![256, 8]⟩
abbrev S1x256x8 : Shape := ⟨3, ![1, 256, 8]⟩
abbrev S1 : Shape := ⟨1, ![1]⟩
abbrev S1x256x16 : Shape := ⟨3, ![1, 256, 16]⟩
abbrev S256x16 : Shape := ⟨2, ![256, 16]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1x4096x2x128, .bf16⟩
  | .hbm, ⟨3, _⟩ => ⟨S1x4096x2x128, .bf16⟩
  | .hbm, ⟨4, _⟩ => ⟨S1024x1024, .bf16⟩
  | .hbm, ⟨5, _⟩ => ⟨S4096x256, .bf16⟩
  | .hbm, ⟨6, _⟩ => ⟨S4096x256, .bf16⟩
  | .hbm, ⟨7, _⟩ => ⟨S1x256x1024, .f32⟩
  | .local _ .vmem, ⟨0, _⟩ => ⟨S1x256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S4096x256, .bf16⟩
  | .local _ .vmem, ⟨4, _⟩ => ⟨S4096x256, .bf16⟩
  | .local _ .vmem, ⟨5, _⟩ => ⟨S1x256x1024, .f32⟩
  | .local _ .vmem, ⟨6, _⟩ => ⟨S4x256x1024, .bf16⟩
  | .local _ .vmem, ⟨7, _⟩ => ⟨S4x256x16, .f32⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_83 : BitVec 32 := 1#32
  let v162 : BitVec 32 := Scalar.muli v25 c1_i32_83
  let v163 : BitVec 32 := Scalar.addi c0_i32_84 v162
  v163.toNat
def k0_dev4 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_93 : BitVec 32 := 1#32
  let v172 : BitVec 32 := Scalar.muli v14 c1_i32_93
  let v173 : BitVec 32 := Scalar.addi c0_i32_94 v172
  v173.toNat
def k0_dev5 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_103 : BitVec 32 := 1#32
  let v182 : BitVec 32 := Scalar.muli v25 c1_i32_103
  let v183 : BitVec 32 := Scalar.addi c0_i32_104 v182
  v183.toNat
def k0_dev6 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_113 : BitVec 32 := 1#32
  let v192 : BitVec 32 := Scalar.muli v14 c1_i32_113
  let v193 : BitVec 32 := Scalar.addi c0_i32_114 v192
  v193.toNat
def k0_dev7 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_142 : BitVec 32 := 1#32
  let v218 : BitVec 32 := Scalar.muli v25 c1_i32_142
  let v219 : BitVec 32 := Scalar.addi c0_i32_143 v218
  v219.toNat
def k0_dev8 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_152 : BitVec 32 := 1#32
  let v228 : BitVec 32 := Scalar.muli v25 c1_i32_152
  let v229 : BitVec 32 := Scalar.addi c0_i32_153 v228
  v229.toNat
def k0_dev9 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_182 : BitVec 32 := 1#32
  let v254 : BitVec 32 := Scalar.muli v14 c1_i32_182
  let v255 : BitVec 32 := Scalar.addi c0_i32_183 v254
  v255.toNat
abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x256x1024 : Shape := ⟨3, ![1, 256, 1024]⟩
abbrev S1024x1024 : Shape := ⟨2, ![1024, 1024]⟩
abbrev S1x16384x2x128 : Shape := ⟨4, ![1, 16384, 2, 128]⟩
abbrev S1x256x8x128 : Shape := ⟨4, ![1, 256, 8, 128]⟩
abbrev S1x16384x2x4x128 : Shape := ⟨5, ![1, 16384, 2, 4, 128]⟩
abbrev S1x16384x8x128 : Shape := ⟨4, ![1, 16384, 8, 128]⟩
abbrev S1x8x256x16384 : Shape := ⟨4, ![1, 8, 256, 16384]⟩
abbrev S_ : Shape := ⟨0, ![]⟩
abbrev S1x8x256 : Shape := ⟨3, ![1, 8, 256]⟩
abbrev S1x8x256x1 : Shape := ⟨4, ![1, 8, 256, 1]⟩
abbrev S1x8x128x256 : Shape := ⟨4, ![1, 8, 128, 256]⟩
abbrev S1x256x8x1 : Shape := ⟨4, ![1, 256, 8, 1]⟩

abbrev nBuf : Space → Nat
  | .hbm => 36
  | .vmem => 0
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1x16384x2x128, .bf16⟩
  | .hbm, ⟨3, _⟩ => ⟨S1x16384x2x128, .bf16⟩
  | .hbm, ⟨4, _⟩ => ⟨S1024x1024, .bf16⟩
  | .hbm, ⟨5, _⟩ => ⟨S1x256x1024, .f32⟩
  | .hbm, ⟨6, _⟩ => ⟨S1024x1024, .f32⟩
  | .hbm, ⟨7, _⟩ => ⟨S1x16384x2x128, .f32⟩
  | .hbm, ⟨8, _⟩ => ⟨S1x16384x2x128, .f32⟩
  | .hbm, ⟨9, _⟩ => ⟨S1024x1024, .f32⟩
  | .hbm, ⟨10, _⟩ => ⟨S1x256x1024, .f32⟩
  | .hbm, ⟨11, _⟩ => ⟨S1x256x8x128, .f32⟩
  | .hbm, ⟨12, _⟩ => ⟨S1x16384x2x4x128, .f32⟩
  | .hbm, ⟨13, _⟩ => ⟨S1x16384x8x128, .f32⟩
  | .hbm, ⟨14, _⟩ => ⟨S1x16384x2x4x128, .f32⟩
  | .hbm, ⟨15, _⟩ => ⟨S1x16384x8x128, .f32⟩
  | .hbm, ⟨16, _⟩ => ⟨S1x8x256x16384, .f32⟩
  | .hbm, ⟨17, _⟩ => ⟨S_, .f32⟩
  | .hbm, ⟨18, _⟩ => ⟨S1x8x256x16384, .f32⟩
  | .hbm, ⟨19, _⟩ => ⟨S1x8x256x16384, .f32⟩
  | .hbm, ⟨20, _⟩ => ⟨S_, .f32⟩
  | .hbm, ⟨21, _⟩ => ⟨S1x8x256, .f32⟩
  | .hbm, ⟨22, _⟩ => ⟨S1x8x256x1, .f32⟩
  | .hbm, ⟨23, _⟩ => ⟨S1x8x256x16384, .f32⟩
  | .hbm, ⟨24, _⟩ => ⟨S1x8x256x16384, .f32⟩
  | .hbm, ⟨25, _⟩ => ⟨S1x8x256x16384, .f32⟩
  | .hbm, ⟨26, _⟩ => ⟨S_, .f32⟩
  | .hbm, ⟨27, _⟩ => ⟨S1x8x256, .f32⟩
  | .hbm, ⟨28, _⟩ => ⟨S1x8x256x1, .f32⟩
  | .hbm, ⟨29, _⟩ => ⟨S1x8x128x256, .f32⟩
  | .hbm, ⟨30, _⟩ => ⟨S1x256x8x128, .f32⟩
  | .hbm, ⟨31, _⟩ => ⟨S1x256x8x1, .f32⟩
  | .hbm, ⟨32, _⟩ => ⟨S1x256x8x128, .f32⟩
  | .hbm, ⟨33, _⟩ => ⟨S1x256x8x128, .f32⟩
  | .hbm, ⟨34, _⟩ => ⟨S1x256x1024, .f32⟩
  | .hbm, ⟨35, _⟩ => ⟨S1x256x1024, .f32⟩
  | _, _ => ⟨S1x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.Pieces.lean ====
/-
# The two communication buffers, cut into the pieces that travel

Each device has a `4×256×1024` buffer of partial outputs and a `4×256×16` buffer of softmax statistics. Slot 0 holds
the device's own part, slot 1 what the left neighbour sent, slot 2 what the right neighbour sent, slot 3 what comes
from the opposite device: its upper half by the left neighbour's relay, its lower half by the right neighbour's.
This module names the ring, the pieces, and the contents each piece has once it is filled, and proves how the pieces
make up the buffers.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.RegionTalk
public import Idealize.ShloMosaic.Lib.Tactic

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources of the cross-device rounds: two duty names a cell. -/
abbrev UB : Type := URounds (GSem nD τ sig) Bool
/-- With the pipeline's own resources beside them. -/
abbrev UU : Type := UR sig nD τ × UB

local notation "𝕄" => MT nD τ sig Unit (Elt F) ℕ UU ℕ

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩
/-- The left neighbour of the right neighbour is the device itself. -/
theorem prv_nxt (c : Dev nD) : prv (nxt c) = c := by revert c; decide
/-- The right neighbour of the left neighbour is the device itself. -/
theorem nxt_prv (c : Dev nD) : nxt (prv c) = c := by revert c; decide
/-- Two steps left and two steps right are the same device: the opposite one. -/
theorem prv_prv (c : Dev nD) : prv (prv c) = nxt (nxt c) := by revert c; decide

/-- The device whose part slot `s` of device `c`'s buffers holds. -/
def src (s : ℕ) (c : Dev nD) : Dev nD := match s with
  | 0 => c
  | 1 => prv c
  | 2 => nxt c
  | _ => nxt (nxt c)

/-- The device each of the nine remote operations names. -/
theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide
theorem dev4_eq (c : Dev nD) : (⟨k0_dev4 c, k0_dev4_lt c⟩ : Dev nD) = prv c := by revert c; decide
theorem dev5_eq (c : Dev nD) : (⟨k0_dev5 c, k0_dev5_lt c⟩ : Dev nD) = nxt c := by revert c; decide
theorem dev6_eq (c : Dev nD) : (⟨k0_dev6 c, k0_dev6_lt c⟩ : Dev nD) = prv c := by revert c; decide
theorem dev7_eq (c : Dev nD) : (⟨k0_dev7 c, k0_dev7_lt c⟩ : Dev nD) = nxt c := by revert c; decide
theorem dev8_eq (c : Dev nD) : (⟨k0_dev8 c, k0_dev8_lt c⟩ : Dev nD) = nxt c := by revert c; decide
theorem dev9_eq (c : Dev nD) : (⟨k0_dev9 c, k0_dev9_lt c⟩ : Dev nD) = prv c := by revert c; decide

/-! ## The buffers, their rectangles, the pieces -/

/-- The output buffer and the statistics buffer. -/
abbrev oM : Memref sig .tc .vmem S4x256x1024 .bf16 := Memref.whole cc0_scratch0
abbrev mM : Memref sig .tc .vmem S4x256x16 .f32 := Memref.whole cc0_scratch1

/-- The slots of the two buffers, and the halves of output slots that are relayed. -/
abbrev rO0 : Rect S4x256x1024 := Rect.unit (s := S4x256x1024) ![0, 0, 0] S1x256x1024.size inb_S4x256x1024_S1x256x1024_0_0_0
abbrev rO1 : Rect S4x256x1024 := Rect.unit (s := S4x256x1024) ![1, 0, 0] S1x256x1024.size inb_S4x256x1024_S1x256x1024_1_0_0
abbrev rO2 : Rect S4x256x1024 := Rect.unit (s := S4x256x1024) ![2, 0, 0] S1x256x1024.size inb_S4x256x1024_S1x256x1024_2_0_0
abbrev rO3 : Rect S4x256x1024 := Rect.unit (s := S4x256x1024) ![3, 0, 0] S1x256x1024.size inb_S4x256x1024_S1x256x1024_3_0_0
abbrev rO1l : Rect S4x256x1024 := Rect.unit (s := S4x256x1024) ![1, 0, 0] S1x128x1024.size inb_S4x256x1024_S1x128x1024_1_0_0
abbrev rO3l : Rect S4x256x1024 := Rect.unit (s := S4x256x1024) ![3, 0, 0] S1x128x1024.size inb_S4x256x1024_S1x128x1024_3_0_0
abbrev rO2h : Rect S4x256x1024 := Rect.unit (s := S4x256x1024) ![2, 128, 0] S1x128x1024.size inb_S4x256x1024_S1x128x1024_2_128_0
abbrev rO3h : Rect S4x256x1024 := Rect.unit (s := S4x256x1024) ![3, 128, 0] S1x128x1024.size inb_S4x256x1024_S1x128x1024_3_128_0
abbrev rM0 : Rect S4x256x16 := Rect.unit (s := S4x256x16) ![0, 0, 0] S1x256x16.size inb_S4x256x16_S1x256x16_0_0_0
abbrev rM1 : Rect S4x256x16 := Rect.unit (s := S4x256x16) ![1, 0, 0] S1x256x16.size inb_S4x256x16_S1x256x16_1_0_0
abbrev rM2 : Rect S4x256x16 := Rect.unit (s := S4x256x16) ![2, 0, 0] S1x256x16.size inb_S4x256x16_S1x256x16_2_0_0
abbrev rM3 : Rect S4x256x16 := Rect.unit (s := S4x256x16) ![3, 0, 0] S1x256x16.size inb_S4x256x16_S1x256x16_3_0_0

/-- Slots of the output buffer as `256×1024` (or, half a slot, `128×1024`) matrices. -/
abbrev oS0 : Memref sig .tc .vmem S256x1024 .bf16 := (oM.slice rO0 (fun _ => rfl)).squeeze S256x1024 squeezes_S1x256x1024_S256x1024
/-- Slots and halves as the copies name them. -/
abbrev oS1 : Memref sig .tc .vmem S256x1024 .bf16 := (oM.slice rO1 (fun _ => rfl)).squeeze S256x1024 squeezes_S1x256x1024_S256x1024
abbrev oS2 : Memref sig .tc .vmem S256x1024 .bf16 := (oM.slice rO2 (fun _ => rfl)).squeeze S256x1024 squeezes_S1x256x1024_S256x1024
abbrev oS1l : Memref sig .tc .vmem S128x1024 .bf16 := (oM.slice rO1l (fun _ => rfl)).squeeze S128x1024 squeezes_S1x128x1024_S128x1024
abbrev oS3l : Memref sig .tc .vmem S128x1024 .bf16 := (oM.slice rO3l (fun _ => rfl)).squeeze S128x1024 squeezes_S1x128x1024_S128x1024
abbrev oS2h : Memref sig .tc .vmem S128x1024 .bf16 := (oM.slice rO2h (fun _ => rfl)).squeeze S128x1024 squeezes_S1x128x1024_S128x1024
abbrev oS3h : Memref sig .tc .vmem S128x1024 .bf16 := (oM.slice rO3h (fun _ => rfl)).squeeze S128x1024 squeezes_S1x128x1024_S128x1024
/-- Slots of the statistics buffer as `256×16` matrices. -/
abbrev mS0 : Memref sig .tc .vmem S256x16 .f32 := (mM.slice rM0 (fun _ => rfl)).squeeze S256x16 squeezes_S1x256x16_S256x16
/-- Slots 1 to 3 of the statistics buffer. -/
abbrev mS1 : Memref sig .tc .vmem S256x16 .f32 := (mM.slice rM1 (fun _ => rfl)).squeeze S256x16 squeezes_S1x256x16_S256x16
abbrev mS2 : Memref sig .tc .vmem S256x16 .f32 := (mM.slice rM2 (fun _ => rfl)).squeeze S256x16 squeezes_S1x256x16_S256x16
abbrev mS3 : Memref sig .tc .vmem S256x16 .f32 := (mM.slice rM3 (fun _ => rfl)).squeeze S256x16 squeezes_S1x256x16_S256x16

/-- What a device's output buffer holds, whole or in part. -/
abbrev OBuf (F : FTy → Type) [FloatOps F] : Type := S4x256x1024.Idx → Elt F .bf16
/-- Contents of the statistics buffer. -/
abbrev MBuf (F : FTy → Type) [FloatOps F] : Type := S4x256x16.Idx → Elt F .f32

/-- Piece `S` of device `c`'s output buffer, at share `q`, with contents `f`. -/
abbrev oP (q : PosShare TreeShare) (S : Finset S4x256x1024.Idx) (c : Dev nD) (f : OBuf F) : sProp 𝕄 :=
  ((c : Thread nD τ).loc cc0_scratch0) ↦[S]{q} f
/-- Piece `S` of device `c`'s statistics buffer, at share `q`, with contents `f`. -/
abbrev mP (q : PosShare TreeShare) (S : Finset S4x256x16.Idx) (c : Dev nD) (f : MBuf F) : sProp 𝕄 :=
  ((c : Thread nD τ).loc cc0_scratch1) ↦[S]{q} f

/-! ## Membership, disjointness, unions -/

/-- Rows `b`, …, `b + n - 1` of slot `a` of the output buffer. -/
def oRows (a b n : ℕ) : Finset S4x256x1024.Idx := Finset.univ.filter fun i => (i 0).val = a ∧ b ≤ (i 1).val ∧ (i 1).val < b + n
/-- Slot `a` of the statistics buffer. -/
def mSlot (a : ℕ) : Finset S4x256x16.Idx := Finset.univ.filter fun i => (i 0).val = a

/-- An index lies in these rows when its slot and its row do. -/
theorem mem_oRows {a b n : ℕ} {i : S4x256x1024.Idx} : i ∈ oRows a b n ↔ (i 0).val = a ∧ b ≤ (i 1).val ∧ (i 1).val < b + n := by
  unfold oRows; rw [Finset.mem_filter]; exact ⟨fun h => h.2, fun h => ⟨Finset.mem_univ _, h⟩⟩
/-- An index lies in a slot when its first coordinate says so. -/
theorem mem_mSlot {a : ℕ} {i : S4x256x16.Idx} : i ∈ mSlot a ↔ (i 0).val = a := by
  unfold mSlot; rw [Finset.mem_filter]; exact ⟨fun h => h.2, fun h => ⟨Finset.mem_univ _, h⟩⟩

/-- The set of a rectangle of full rows of one slot of the output buffer. -/
theorem set_rO (a b n : ℕ) {inb} : (Rect.unit (s := S4x256x1024) ![a, b, 0] ![1, n, 1024] inb).set = oRows a b n := by
  ext i
  rw [Rect.mem_set_unit, mem_oRows]
  constructor
  · intro h
    have h0 : a ≤ (i 0).val ∧ (i 0).val < a + 1 := h 0
    have h1 : b ≤ (i 1).val ∧ (i 1).val < b + n := h 1
    omega
  · rintro ⟨h0, h1, h1'⟩ ⟨k, hk⟩
    match k, hk with
    | 0, _ => exact (⟨by omega, by omega⟩ : a ≤ (i 0).val ∧ (i 0).val < a + 1)
    | 1, _ => exact (⟨h1, h1'⟩ : b ≤ (i 1).val ∧ (i 1).val < b + n)
    | 2, _ => exact (⟨Nat.zero_le _, by have h2 : (i 2).val < 1024 := (i 2).isLt; omega⟩ : 0 ≤ (i 2).val ∧ (i 2).val < 0 + 1024)
/-- Of a whole slot of the statistics buffer. -/
theorem set_rM (a : ℕ) {inb} : (Rect.unit (s := S4x256x16) ![a, 0, 0] ![1, 256, 16] inb).set = mSlot a := by
  ext i
  rw [Rect.mem_set_unit, mem_mSlot]
  constructor
  · intro h
    have h0 : a ≤ (i 0).val ∧ (i 0).val < a + 1 := h 0
    omega
  · rintro h0 ⟨k, hk⟩
    match k, hk with
    | 0, _ => exact (⟨by omega, by omega⟩ : a ≤ (i 0).val ∧ (i 0).val < a + 1)
    | 1, _ => exact (⟨Nat.zero_le _, by have h2 : (i 1).val < 256 := (i 1).isLt; omega⟩ : 0 ≤ (i 1).val ∧ (i 1).val < 0 + 256)
    | 2, _ => exact (⟨Nat.zero_le _, by have h2 : (i 2).val < 16 := (i 2).isLt; omega⟩ : 0 ≤ (i 2).val ∧ (i 2).val < 0 + 16)

/-- A load or store of eight columns of slot `a` of the statistics buffer stays in the slot. -/
theorem sub_rM8 (a b : ℕ) {inb} : (Rect.unit (s := S4x256x16) ![a, 0, b] ![1, 256, 8] inb).set ⊆ mSlot a := by
  intro i hi
  rw [Rect.mem_set_unit] at hi
  have h0 : a ≤ (i 0).val ∧ (i 0).val < a + 1 := hi 0
  rw [mem_mSlot]; omega

/-- The set of a squeezed slice of a whole buffer is the rectangle's. -/
theorem set_sq (b : Ref sig .tc) (r : Rect b.ty.shape) (s' : Shape) (h) : (((View.whole b).slice r).reshape s' h).set = r.set := by
  rw [View.set_reshape, View.set_slice_whole]

/-- The indices of each named piece. -/
theorem set_oS0 : oS0.view.set = oRows 0 0 256 := (set_sq cc0_scratch0 rO0 _ _).trans (set_rO 0 0 256)
theorem set_oS1 : oS1.view.set = oRows 1 0 256 := (set_sq cc0_scratch0 rO1 _ _).trans (set_rO 1 0 256)
theorem set_oS2 : oS2.view.set = oRows 2 0 256 := (set_sq cc0_scratch0 rO2 _ _).trans (set_rO 2 0 256)
theorem set_oS1l : oS1l.view.set = oRows 1 0 128 := (set_sq cc0_scratch0 rO1l _ _).trans (set_rO 1 0 128)
theorem set_oS3l : oS3l.view.set = oRows 3 0 128 := (set_sq cc0_scratch0 rO3l _ _).trans (set_rO 3 0 128)
theorem set_oS2h : oS2h.view.set = oRows 2 128 128 := (set_sq cc0_scratch0 rO2h _ _).trans (set_rO 2 128 128)
theorem set_oS3h : oS3h.view.set = oRows 3 128 128 := (set_sq cc0_scratch0 rO3h _ _).trans (set_rO 3 128 128)
theorem set_mS0 : mS0.view.set = mSlot 0 := (set_sq cc0_scratch1 rM0 _ _).trans (set_rM 0)
theorem set_mS1 : mS1.view.set = mSlot 1 := (set_sq cc0_scratch1 rM1 _ _).trans (set_rM 1)
theorem set_mS2 : mS2.view.set = mSlot 2 := (set_sq cc0_scratch1 rM2 _ _).trans (set_rM 2)
theorem set_mS3 : mS3.view.set = mSlot 3 := (set_sq cc0_scratch1 rM3 _ _).trans (set_rM 3)

/-- Two disjoint pieces of the output buffer are their union. -/
theorem oP_union {q : PosShare TreeShare} {I J K : Finset S4x256x1024.Idx} (c : Dev nD) (f : OBuf F) (hK : K = I ∪ J) (h : Disjoint I J) :
    (oP q K c f : sProp 𝕄) ⊣⊢ iprop(oP q I c f ∗ oP q J c f) := by
  subst hK; exact pointsTo_union h
/-- Two disjoint pieces of the statistics buffer are their union. -/
theorem mP_union {q : PosShare TreeShare} {I J K : Finset S4x256x16.Idx} (c : Dev nD) (f : MBuf F) (hK : K = I ∪ J) (h : Disjoint I J) :
    (mP q K c f : sProp 𝕄) ⊣⊢ iprop(mP q I c f ∗ mP q J c f) := by
  subst hK; exact pointsTo_union h

/-- Slot 1 is its upper and lower halves. -/
theorem o_slot1 (q : PosShare TreeShare) (c : Dev nD) (f : OBuf F) :
    (oP q (oRows 1 0 256) c f : sProp 𝕄) ⊣⊢ iprop(oP q (oRows 1 0 128) c f ∗ oP q (oRows 1 128 128) c f) :=
  oP_union c f (by ext i; simp only [Finset.mem_union, mem_oRows]; omega) (by rw [Finset.disjoint_left]; intro i; simp only [mem_oRows]; omega)
/-- So is slot 2. -/
theorem o_slot2 (q : PosShare TreeShare) (c : Dev nD) (f : OBuf F) :
    (oP q (oRows 2 0 256) c f : sProp 𝕄) ⊣⊢ iprop(oP q (oRows 2 0 128) c f ∗ oP q (oRows 2 128 128) c f) :=
  oP_union c f (by ext i; simp only [Finset.mem_union, mem_oRows]; omega) (by rw [Finset.disjoint_left]; intro i; simp only [mem_oRows]; omega)
/-- So is slot 3. -/
theorem o_slot3 (q : PosShare TreeShare) (c : Dev nD) (f : OBuf F) :
    (oP q (oRows 3 0 256) c f : sProp 𝕄) ⊣⊢ iprop(oP q (oRows 3 0 128) c f ∗ oP q (oRows 3 128 128) c f) :=
  oP_union c f (by ext i; simp only [Finset.mem_union, mem_oRows]; omega) (by rw [Finset.disjoint_left]; intro i; simp only [mem_oRows]; omega)

/-- The whole output buffer is its four slots. -/
theorem o_split (q : PosShare TreeShare) (c : Dev nD) (f : OBuf F) :
    (oP q Finset.univ c f : sProp 𝕄) ⊣⊢ iprop(oP q (oRows 0 0 256) c f ∗ oP q (oRows 1 0 256) c f ∗ oP q (oRows 2 0 256) c f ∗ oP q (oRows 3 0 256) c f) := by
  refine (oP_union (I := oRows 0 0 256) (J := oRows 1 0 256 ∪ (oRows 2 0 256 ∪ oRows 3 0 256)) c f ?_ ?_).trans (sep_congr .rfl
    ((oP_union (I := oRows 1 0 256) (J := oRows 2 0 256 ∪ oRows 3 0 256) c f rfl ?_).trans (sep_congr .rfl (oP_union c f rfl ?_))))
  · ext i
    have h0 : (i 0).val < 4 := (i 0).isLt
    have h1 : (i 1).val < 256 := (i 1).isLt
    simp only [Finset.mem_univ, Finset.mem_union, mem_oRows, true_iff]
    omega
  all_goals (rw [Finset.disjoint_left]; intro i; simp only [Finset.mem_union, mem_oRows]; omega)
/-- The whole statistics buffer is its four slots. -/
theorem m_split (q : PosShare TreeShare) (c : Dev nD) (f : MBuf F) :
    (mP q Finset.univ c f : sProp 𝕄) ⊣⊢ iprop(mP q (mSlot 0) c f ∗ mP q (mSlot 1) c f ∗ mP q (mSlot 2) c f ∗ mP q (mSlot 3) c f) := by
  refine (mP_union (I := mSlot 0) (J := mSlot 1 ∪ (mSlot 2 ∪ mSlot 3)) c f ?_ ?_).trans (sep_congr .rfl
    ((mP_union (I := mSlot 1) (J := mSlot 2 ∪ mSlot 3) c f rfl ?_).trans (sep_congr .rfl (mP_union c f rfl ?_))))
  · ext i
    have h0 : (i 0).val < 4 := (i 0).isLt
    simp only [Finset.mem_univ, Finset.mem_union, mem_mSlot, true_iff]
    omega
  all_goals (rw [Finset.disjoint_left]; intro i; simp only [Finset.mem_union, mem_mSlot]; omega)
/-- Any piece is its two half shares. -/
theorem o_halves (S : Finset S4x256x1024.Idx) (c : Dev nD) (f : OBuf F) :
    (oP fullShare S c f : sProp 𝕄) ⊣⊢ iprop(oP fullShare.left S c f ∗ oP fullShare.right S c f) :=
  pointsTo_share (PosShare.mem_left_op_right fullShare)
/-- Any piece of the statistics buffer is its two half shares. -/
theorem m_halves (S : Finset S4x256x16.Idx) (c : Dev nD) (f : MBuf F) :
    (mP fullShare S c f : sProp 𝕄) ⊣⊢ iprop(mP fullShare.left S c f ∗ mP fullShare.right S c f) :=
  pointsTo_share (PosShare.mem_left_op_right fullShare)

/-! ## The contents -/

/-- A device's own part of the outputs, as slot 0 holds it; its own maxima or sums, eight columns each. -/
abbrev OPart (F : FTy → Type) [FloatOps F] : Type := Dev nD → S1x256x1024.Idx → Elt F .bf16
/-- Device by device, eight columns of statistics. -/
abbrev MPart (F : FTy → Type) [FloatOps F] : Type := Dev nD → S1x256x8.Idx → Elt F .f32

/-- The place inside its slot of an index of the output buffer. -/
def inSlot (i : S4x256x1024.Idx) : S1x256x1024.Idx := fun a => match a with
  | ⟨0, _⟩ => (⟨0, Nat.one_pos⟩ : Fin 1)
  | ⟨1, _⟩ => ⟨(i 1).val, (i 1).isLt⟩
  | ⟨2, _⟩ => ⟨(i 2).val, (i 2).isLt⟩
/-- The place inside its slot's half of an index of the statistics buffer. -/
def inHalf (i : S4x256x16.Idx) : S1x256x8.Idx := fun a => match a with
  | ⟨0, _⟩ => (⟨0, Nat.one_pos⟩ : Fin 1)
  | ⟨1, _⟩ => ⟨(i 1).val, (i 1).isLt⟩
  | ⟨2, _⟩ => (⟨(i 2).val % 8, Nat.mod_lt _ (Nat.succ_pos 7)⟩ : Fin 8)

/-- Device `c`'s output buffer once filled: slot `s` holds the part of device `src s c`. -/
def oBuf (ov : OPart F) (c : Dev nD) : OBuf F := fun i => ov (src (i 0).val c) (inSlot i)
/-- Device `c`'s statistics buffer once filled: the maxima in columns 0 to 7 of each slot, the sums in columns 8 to 15. -/
def mBuf (mv lv : MPart F) (c : Dev nD) : MBuf F := fun i => (if (i 2).val < 8 then mv else lv) (src (i 0).val c) (inHalf i)

variable (ov : OPart F) (mv lv : MPart F)

/-- Two filled output buffers agree at places that hold the same device's part. -/
theorem oBuf_eq {c n : Dev nD} {i j : S4x256x1024.Idx} (h0 : src (i 0).val c = src (j 0).val n) (h1 : (i 1).val = (j 1).val) (h2 : (i 2).val = (j 2).val) :
    oBuf ov c i = oBuf ov n j := by
  have e : inSlot i = inSlot j := by
    funext a
    obtain ⟨a, ha⟩ := a
    match a, ha with
    | 0, _ => rfl
    | 1, _ => exact Fin.ext h1
    | 2, _ => exact Fin.ext h2
  unfold oBuf; rw [h0, e]
/-- Two filled statistics buffers agree at places that hold the same device's part. -/
theorem mBuf_eq {c n : Dev nD} {i j : S4x256x16.Idx} (h0 : src (i 0).val c = src (j 0).val n) (h1 : (i 1).val = (j 1).val) (h2 : (i 2).val = (j 2).val) :
    mBuf mv lv c i = mBuf mv lv n j := by
  have e : inHalf i = inHalf j := by
    funext a
    obtain ⟨a, ha⟩ := a
    match a, ha with
    | 0, _ => rfl
    | 1, _ => exact Fin.ext h1
    | 2, _ => exact Fin.ext (congrArg (· % 8) h2)
  unfold mBuf; rw [h0, h2, e]

/-- Copying one squeezed slice of a buffer onto another of the same extents writes at each place of the target rectangle
    what the source rectangle holds at the same place: if that is what `g` says, the target now holds `g`. -/
theorem landed (b : Ref sig .tc) (off₁ off₂ sz : Fin b.ty.shape.rank → ℕ) (inb₁) (inb₂) (s' : Shape) (h₁) (h₂)
    (fd fs g : b.ty.Contents (Elt F))
    (hg : ∀ y : (⟨b.ty.shape.rank, sz⟩ : Shape).Idx, fs ((Rect.unit (s := b.ty.shape) off₁ sz inb₁).emb y) = g ((Rect.unit (s := b.ty.shape) off₂ sz inb₂).emb y))
    (i : b.ty.shape.Idx) (hi : i ∈ (((View.whole b).slice (Rect.unit (s := b.ty.shape) off₂ sz inb₂)).reshape s' h₂).set) :
    (((View.whole b).slice (Rect.unit (s := b.ty.shape) off₂ sz inb₂)).reshape s' h₂).write (Elt F) fd
      ((((View.whole b).slice (Rect.unit (s := b.ty.shape) off₁ sz inb₁)).reshape s' h₁).read (Elt F) fs) Finset.univ i = g i := by
  obtain ⟨x, -, rfl⟩ := Finset.mem_map.mp hi
  rw [View.write_emb_of_mem _ _ (Finset.mem_univ x), View.read_apply]
  exact hg (Shape.reshapeEquiv h₂ x)

/-! ## What a load of a filled slot reads, and what the stores of the own part leave -/

/-- Reading a slot of the filled output buffer: the part of the device whose slot it is. -/
theorem read_oBuf (c : Dev nD) (a : ℕ) (inb) :
    ((Memref.whole cc0_scratch0 : Memref sig .tc .vmem S4x256x1024 .bf16).access (Rect.unit (s := S4x256x1024) ![a, 0, 0] S1x256x1024.size inb) :
      View sig .tc _ _ _).read (Elt F) (oBuf ov c) = ov (src a c) := by
  funext y
  have h0 : (y 0).val = 0 := by have : (y 0).val < 1 := (y 0).isLt; omega
  have e : inSlot ((Rect.unit (s := S4x256x1024) ![a, 0, 0] S1x256x1024.size inb).emb y) = y := by
    funext k
    obtain ⟨k, hk⟩ := k
    match k, hk with
    | 0, _ => exact Fin.ext h0.symm
    | 1, _ => exact Fin.ext (show 0 + 1 * (y 1).val = (y 1).val by omega)
    | 2, _ => exact Fin.ext (show 0 + 1 * (y 2).val = (y 2).val by omega)
  show ov (src (a + 1 * (y 0).val) c) (inSlot ((Rect.unit (s := S4x256x1024) ![a, 0, 0] S1x256x1024.size inb).emb y)) = _
  rw [e, h0]; rfl

/-- Reading the first eight columns of a slot of the filled statistics buffer: that device's maxima. -/
theorem read_mBuf (c : Dev nD) (a : ℕ) (inb) :
    ((Memref.whole cc0_scratch1 : Memref sig .tc .vmem S4x256x16 .f32).access (Rect.unit (s := S4x256x16) ![a, 0, 0] S1x256x8.size inb) :
      View sig .tc _ _ _).read (Elt F) (mBuf mv lv c) = mv (src a c) := by
  funext y
  have h0 : (y 0).val = 0 := by have : (y 0).val < 1 := (y 0).isLt; omega
  have h2 : (y 2).val < 8 := (y 2).isLt
  have e : inHalf ((Rect.unit (s := S4x256x16) ![a, 0, 0] S1x256x8.size inb).emb y) = y := by
    funext k
    obtain ⟨k, hk⟩ := k
    match k, hk with
    | 0, _ => exact Fin.ext h0.symm
    | 1, _ => exact Fin.ext (show 0 + 1 * (y 1).val = (y 1).val by omega)
    | 2, _ => exact Fin.ext (show (0 + 1 * (y 2).val) % 8 = (y 2).val by omega)
  show (if 0 + 1 * (y 2).val < 8 then mv else lv) (src (a + 1 * (y 0).val) c) (inHalf ((Rect.unit (s := S4x256x16) ![a, 0, 0] S1x256x8.size inb).emb y)) = _
  rw [e, h0, if_pos (by omega)]; rfl
/-- Reading the last eight columns: that device's sums. -/
theorem read_lBuf (c : Dev nD) (a : ℕ) (inb) :
    ((Memref.whole cc0_scratch1 : Memref sig .tc .vmem S4x256x16 .f32).access (Rect.unit (s := S4x256x16) ![a, 0, 8] S1x256x8.size inb) :
      View sig .tc _ _ _).read (Elt F) (mBuf mv lv c) = lv (src a c) := by
  funext y
  have h0 : (y 0).val = 0 := by have : (y 0).val < 1 := (y 0).isLt; omega
  have h2 : (y 2).val < 8 := (y 2).isLt
  have e : inHalf ((Rect.unit (s := S4x256x16) ![a, 0, 8] S1x256x8.size inb).emb y) = y := by
    funext k
    obtain ⟨k, hk⟩ := k
    match k, hk with
    | 0, _ => exact Fin.ext h0.symm
    | 1, _ => exact Fin.ext (show 0 + 1 * (y 1).val = (y 1).val by omega)
    | 2, _ => exact Fin.ext (show (8 + 1 * (y 2).val) % 8 = (y 2).val by omega)
  show (if 8 + 1 * (y 2).val < 8 then mv else lv) (src (a + 1 * (y 0).val) c) (inHalf ((Rect.unit (s := S4x256x16) ![a, 0, 8] S1x256x8.size inb).emb y)) = _
  rw [e, h0, if_neg (by omega)]; rfl

/-- Storing the own part in slot 0 fills it. -/
theorem store_oBuf (c : Dev nD) (f : OBuf F) (i : S4x256x1024.Idx) (hi : i ∈ oRows 0 0 256) :
    ((Memref.whole cc0_scratch0 : Memref sig .tc .vmem S4x256x1024 .bf16).access rO0 : View sig .tc _ _ _).write (Elt F) f (ov c) Finset.univ i = oBuf ov c i := by
  rw [← set_rO 0 0 256 (inb := inb_S4x256x1024_S1x256x1024_0_0_0)] at hi
  obtain ⟨y, rfl⟩ : ∃ y, rO0.emb y = i := by
    rw [← View.set_slice_whole cc0_scratch0 rO0] at hi
    obtain ⟨y, -, hy⟩ := Finset.mem_map.mp hi
    exact ⟨y, hy⟩
  refine (View.write_emb_of_mem (v := ((Memref.whole cc0_scratch0 : Memref sig .tc .vmem S4x256x1024 .bf16).access rO0)) f (ov c) (Finset.mem_univ y)).trans ?_
  exact (congrFun (read_oBuf ov c 0 inb_S4x256x1024_S1x256x1024_0_0_0) y).symm

/-- Storing the own maxima and then the own sums fills slot 0 of the statistics. -/
theorem store_mBuf (c : Dev nD) (f : MBuf F) (i : S4x256x16.Idx) (hi : i ∈ mSlot 0) :
    ((Memref.whole cc0_scratch1 : Memref sig .tc .vmem S4x256x16 .f32).access (Rect.unit (s := S4x256x16) ![0, 0, 8] S1x256x8.size inb_S4x256x16_S1x256x8_0_0_8) : View sig .tc _ _ _).write (Elt F)
      (((Memref.whole cc0_scratch1 : Memref sig .tc .vmem S4x256x16 .f32).access (Rect.unit (s := S4x256x16) ![0, 0, 0] S1x256x8.size inb_S4x256x16_S1x256x8_0_0_0) : View sig .tc _ _ _).write (Elt F) f (mv c) Finset.univ)
      (lv c) Finset.univ i = mBuf mv lv c i := by
  rw [mem_mSlot] at hi
  have h2 : (i 2).val < 16 := (i 2).isLt
  by_cases h : (i 2).val < 8
  · rw [View.write_of_not_mem _ _ _ (by
      intro h'
      have h' := View.setOn_subset_set _ _ h'
      rw [show View.set _ = _ from View.set_slice_whole cc0_scratch1 _, Rect.mem_set_unit] at h'
      have h3 : 8 ≤ (i 2).val ∧ (i 2).val < 8 + 8 := h' 2
      omega)]
    have hi' : i ∈ (Rect.unit (s := S4x256x16) ![0, 0, 0] S1x256x8.size inb_S4x256x16_S1x256x8_0_0_0).set := by
      rw [Rect.mem_set_unit]; rintro ⟨k, hk⟩
      match k, hk with
      | 0, _ => exact (⟨by omega, by omega⟩ : 0 ≤ (i 0).val ∧ (i 0).val < 0 + 1)
      | 1, _ => exact (⟨Nat.zero_le _, by have h2 : (i 1).val < 256 := (i 1).isLt; omega⟩ : 0 ≤ (i 1).val ∧ (i 1).val < 0 + 256)
      | 2, _ => exact (⟨Nat.zero_le _, by omega⟩ : 0 ≤ (i 2).val ∧ (i 2).val < 0 + 8)
    rw [← View.set_slice_whole cc0_scratch1] at hi'
    obtain ⟨y, -, rfl⟩ := Finset.mem_map.mp hi'
    exact (View.write_emb_of_mem _ _ (Finset.mem_univ y)).trans (congrFun (read_mBuf mv lv c 0 inb_S4x256x16_S1x256x8_0_0_0) y).symm
  · have hi' : i ∈ (Rect.unit (s := S4x256x16) ![0, 0, 8] S1x256x8.size inb_S4x256x16_S1x256x8_0_0_8).set := by
      rw [Rect.mem_set_unit]; rintro ⟨k, hk⟩
      match k, hk with
      | 0, _ => exact (⟨by omega, by omega⟩ : 0 ≤ (i 0).val ∧ (i 0).val < 0 + 1)
      | 1, _ => exact (⟨Nat.zero_le _, by have h2 : (i 1).val < 256 := (i 1).isLt; omega⟩ : 0 ≤ (i 1).val ∧ (i 1).val < 0 + 256)
      | 2, _ => exact (⟨by omega, by omega⟩ : 8 ≤ (i 2).val ∧ (i 2).val < 8 + 8)
    rw [← View.set_slice_whole cc0_scratch1] at hi'
    obtain ⟨y, -, rfl⟩ := Finset.mem_map.mp hi'
    exact (View.write_emb_of_mem _ _ (Finset.mem_univ y)).trans (congrFun (read_lBuf mv lv c 0 inb_S4x256x16_S1x256x8_0_0_8) y).symm

/-! ## What each of the seven copies lands -/

/-- A copy of block `(a₁, b)` of device `c`'s filled output buffer onto block `(a₂, b)` of device `n`'s leaves there what
    `n`'s filled buffer holds, when the two slots are meant for the same device's part. -/
theorem land_o {c n : Dev nD} (a₁ a₂ b k : ℕ) (hs : src a₁ c = src a₂ n) (inb₁) (inb₂) (s' : Shape) (h₁) (h₂) (fd : OBuf F)
    (i : S4x256x1024.Idx) (hi : i ∈ (((View.whole cc0_scratch0).slice (Rect.unit (s := S4x256x1024) ![a₂, b, 0] ![1, k, 1024] inb₂)).reshape s' h₂).set) :
    (((View.whole cc0_scratch0).slice (Rect.unit (s := S4x256x1024) ![a₂, b, 0] ![1, k, 1024] inb₂)).reshape s' h₂).write (Elt F) fd
      ((((View.whole cc0_scratch0).slice (Rect.unit (s := S4x256x1024) ![a₁, b, 0] ![1, k, 1024] inb₁)).reshape s' h₁).read (Elt F) (oBuf ov c)) Finset.univ i
        = oBuf ov n i := by
  refine landed cc0_scratch0 _ _ _ _ _ s' h₁ h₂ fd (oBuf ov c) (oBuf ov n) (fun y => oBuf_eq ov ?_ rfl rfl) i hi
  have h0 : (y 0).val = 0 := by have : (y 0).val < 1 := (y 0).isLt; omega
  show src (a₁ + 1 * (y 0).val) c = src (a₂ + 1 * (y 0).val) n
  rw [h0]; exact hs
/-- A slot of statistics copied from a filled buffer fills the target as planned. -/
theorem land_m {c n : Dev nD} (a₁ a₂ : ℕ) (hs : src a₁ c = src a₂ n) (inb₁) (inb₂) (s' : Shape) (h₁) (h₂) (fd : MBuf F)
    (i : S4x256x16.Idx) (hi : i ∈ (((View.whole cc0_scratch1).slice (Rect.unit (s := S4x256x16) ![a₂, 0, 0] ![1, 256, 16] inb₂)).reshape s' h₂).set) :
    (((View.whole cc0_scratch1).slice (Rect.unit (s := S4x256x16) ![a₂, 0, 0] ![1, 256, 16] inb₂)).reshape s' h₂).write (Elt F) fd
      ((((View.whole cc0_scratch1).slice (Rect.unit (s := S4x256x16) ![a₁, 0, 0] ![1, 256, 16] inb₁)).reshape s' h₁).read (Elt F) (mBuf mv lv c)) Finset.univ i
        = mBuf mv lv n i := by
  refine landed cc0_scratch1 _ _ _ _ _ s' h₁ h₂ fd (mBuf mv lv c) (mBuf mv lv n) (fun y => mBuf_eq mv lv ?_ rfl rfl) i hi
  have h0 : (y 0).val = 0 := by have : (y 0).val < 1 := (y 0).isLt; omega
  show src (a₁ + 1 * (y 0).val) c = src (a₂ + 1 * (y 0).val) n
  rw [h0]; exact hs

end Cert.RingAttn
-- ==== Proof.Protocol.lean ====
/-
# The protocol: who hands what to whom

Every semaphore of the kernel is one cell of the rounds library with one round. On device `c`'s BARRIER cell both
neighbours pay one unit: the right neighbour hands over the slots of its buffers that `c`'s copies to the right will
fill, the left neighbour those the copies to the left will fill. On a RECEIVE cell the sender's copy pays the bytes and
hands over the filled piece; on a SEND cell the device's own copy pays and hands the source piece back.
The module states the schedule, its tables, what each device owes at launch in the order it pays, and the levels that
make every wait safe.
-/
module

public import proofs.«01_k».proof.Proof.Pieces

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the pipeline's own resources and the protocol's sit. -/
abbrev EP : Emb (UR sig nD τ) (MT nD τ sig Unit (Elt F) ℕ UU ℕ) := embL
/-- The protocol's. -/
abbrev ER : Emb UB (MT nD τ sig Unit (Elt F) ℕ UU ℕ) := embR

/-! ## The cells -/

/-- The barrier semaphore. -/
abbrev barS : Sem sig := (SemArray.scalar (sig.barrier 0 rfl) : Sems sig S_).sem
/-- The kernel's fourteen DMA semaphores in order: four for sending outputs (0–3), four for receiving them (4–7), three for
    sending statistics (8–10), three for receiving them (11–13). -/
abbrev dq (k : Fin 14) : DmaSem sig := ⟨6 + k.val, (show 6 + k.val < 20 from Nat.add_lt_add_left k.isLt 6)⟩

/-- Each semaphore as the kernel's text names it. -/
theorem sl_os0 : ((cc0_scratch2.slice (Rect.unit (s := S4) ![0] S1.size inb_S4_S1_0)).squeeze S_ squeezes_S1_S_).sem = dq 0 := rfl
theorem sl_os1 : ((cc0_scratch2.slice (Rect.unit (s := S4) ![1] S1.size inb_S4_S1_1)).squeeze S_ squeezes_S1_S_).sem = dq 1 := rfl
theorem sl_os2 : ((cc0_scratch2.slice (Rect.unit (s := S4) ![2] S1.size inb_S4_S1_2)).squeeze S_ squeezes_S1_S_).sem = dq 2 := rfl
theorem sl_os3 : ((cc0_scratch2.slice (Rect.unit (s := S4) ![3] S1.size inb_S4_S1_3)).squeeze S_ squeezes_S1_S_).sem = dq 3 := rfl
theorem sl_or0 : ((cc0_scratch3.slice (Rect.unit (s := S4) ![0] S1.size inb_S4_S1_0)).squeeze S_ squeezes_S1_S_).sem = dq 4 := rfl
theorem sl_or1 : ((cc0_scratch3.slice (Rect.unit (s := S4) ![1] S1.size inb_S4_S1_1)).squeeze S_ squeezes_S1_S_).sem = dq 5 := rfl
theorem sl_or2 : ((cc0_scratch3.slice (Rect.unit (s := S4) ![2] S1.size inb_S4_S1_2)).squeeze S_ squeezes_S1_S_).sem = dq 6 := rfl
theorem sl_or3 : ((cc0_scratch3.slice (Rect.unit (s := S4) ![3] S1.size inb_S4_S1_3)).squeeze S_ squeezes_S1_S_).sem = dq 7 := rfl
theorem sl_ms0 : ((cc0_scratch4.slice (Rect.unit (s := S3) ![0] S1.size inb_S3_S1_0)).squeeze S_ squeezes_S1_S_).sem = dq 8 := rfl
theorem sl_ms1 : ((cc0_scratch4.slice (Rect.unit (s := S3) ![1] S1.size inb_S3_S1_1)).squeeze S_ squeezes_S1_S_).sem = dq 9 := rfl
theorem sl_ms2 : ((cc0_scratch4.slice (Rect.unit (s := S3) ![2] S1.size inb_S3_S1_2)).squeeze S_ squeezes_S1_S_).sem = dq 10 := rfl
theorem sl_mr0 : ((cc0_scratch5.slice (Rect.unit (s := S3) ![0] S1.size inb_S3_S1_0)).squeeze S_ squeezes_S1_S_).sem = dq 11 := rfl
theorem sl_mr1 : ((cc0_scratch5.slice (Rect.unit (s := S3) ![1] S1.size inb_S3_S1_1)).squeeze S_ squeezes_S1_S_).sem = dq 12 := rfl
theorem sl_mr2 : ((cc0_scratch5.slice (Rect.unit (s := S3) ![2] S1.size inb_S3_S1_2)).squeeze S_ squeezes_S1_S_).sem = dq 13 := rfl

/-- The barrier cell of a device. -/
abbrev barCell (c : Dev nD) : GSem nD τ sig := ((c : Thread nD τ), .reg barS)
/-- The cell of a device's `k`-th copy semaphore. -/
abbrev dCell (c : Dev nD) (k : Fin 14) : GSem nD τ sig := ((c : Thread nD τ), .dma (dq k))

/-- The bytes of a slot of outputs, of half a slot, of a slot of statistics. -/
def NO : ℕ := oS0.view.dmaCredit
/-- The bytes of half a slot of outputs. -/
def NH : ℕ := oS1l.view.dmaCredit
/-- The bytes of a slot of statistics. -/
def NM : ℕ := mS0.view.dmaCredit

/-- The bytes a copy onto the `k`-th DMA semaphore counts. -/
def amt (k : ℕ) : ℕ := if k = 0 ∨ k = 1 ∨ k = 4 ∨ k = 5 then NO else if k < 8 then NH else NM
/-- Every copy counts some bytes. -/
theorem amt_pos (k : ℕ) : 0 < amt k := by
  unfold amt NO NH NM
  split
  · exact View.dmaCredit_pos _ (by decide)
  · split <;> exact View.dmaCredit_pos _ (by decide)

/-! ## The payloads -/

variable (ov : OPart F) (mv lv : MPart F)

/-- What the `k`-th DMA semaphore of device `c` is handed: for a send, the source piece at the half share lent to the copy; for a
    receive, the filled piece. -/
def pay (c : Dev nD) (k : ℕ) : sProp 𝕄 := match k with
  | 0 => oP fullShare.left (oRows 0 0 256) c (oBuf ov c)
  | 1 => oP fullShare.right (oRows 0 0 256) c (oBuf ov c)
  | 2 => oP fullShare.left (oRows 1 0 128) c (oBuf ov c)
  | 3 => oP fullShare.left (oRows 2 128 128) c (oBuf ov c)
  | 4 => oP fullShare (oRows 1 0 256) c (oBuf ov c)
  | 5 => oP fullShare (oRows 2 0 256) c (oBuf ov c)
  | 6 => oP fullShare (oRows 3 0 128) c (oBuf ov c)
  | 7 => oP fullShare (oRows 3 128 128) c (oBuf ov c)
  | 8 => mP fullShare.left (mSlot 0) c (mBuf mv lv c)
  | 9 => mP fullShare.right (mSlot 0) c (mBuf mv lv c)
  | 10 => mP fullShare.left (mSlot 1) c (mBuf mv lv c)
  | 11 => mP fullShare (mSlot 1) c (mBuf mv lv c)
  | 12 => mP fullShare (mSlot 2) c (mBuf mv lv c)
  | _ => mP fullShare (mSlot 3) c (mBuf mv lv c)

/-- What the right neighbour `n` hands to the barrier of the device on its left: the pieces that device's copies to the right fill. -/
def barT (n : Dev nD) : sProp 𝕄 :=
  iprop((∃ f, oP fullShare (oRows 1 0 256) n f) ∗ (∃ f, oP fullShare (oRows 3 0 128) n f) ∗ (∃ f, mP fullShare (mSlot 1) n f) ∗ (∃ f, mP fullShare (mSlot 3) n f)
    ∗ reached ER (dCell n 4) 0 ∗ reached ER (dCell n 6) 0 ∗ reached ER (dCell n 11) 0 ∗ reached ER (dCell n 13) 0)
/-- What the left neighbour `n` hands to the barrier of the device on its right. -/
def barF (n : Dev nD) : sProp 𝕄 :=
  iprop((∃ f, oP fullShare (oRows 2 0 256) n f) ∗ (∃ f, oP fullShare (oRows 3 128 128) n f) ∗ (∃ f, mP fullShare (mSlot 2) n f)
    ∗ reached ER (dCell n 5) 0 ∗ reached ER (dCell n 7) 0 ∗ reached ER (dCell n 12) 0)

/-- The schedule: one round, two duties on a barrier cell (`true` the right neighbour's, `false` the left one's), one on a
    kernel's DMA cell. -/
def sch : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma q => amt (q.val - 6)
  payload g _ d := match g.2 with
    | .reg _ => if d then barT (nxt g.1.1) else barF (prv g.1.1)
    | .dma q => pay ov mv lv g.1.1 (q.val - 6)
  amount_pos g _ _ _ := by
    split
    · exact Nat.one_pos
    · exact amt_pos _

/-- What a copy hands over can be kept in an invariant. -/
instance pay_storable (c : Dev nD) (k : ℕ) : BI.Storable (upEmb : UEmb _ 𝕄) (pay ov mv lv c k) := by
  unfold pay; split <;> infer_instance
/-- So can what the right neighbour's signal hands over. -/
instance barT_storable (n : Dev nD) : BI.Storable (upEmb : UEmb _ 𝕄) (barT (F := F) n) := by unfold barT; infer_instance
/-- So can what the left neighbour's signal hands over. -/
instance barF_storable (n : Dev nD) : BI.Storable (upEmb : UEmb _ 𝕄) (barF (F := F) n) := by unfold barF; infer_instance

/-- So can every payload of the schedule. -/
instance sch_payload_storable (g : GSem nD τ sig) (r : ℕ) (d : Bool) : BI.Storable (upEmb : UEmb _ 𝕄) ((sch ov mv lv).payload g r d) := by
  obtain ⟨⟨c, p⟩, sm⟩ := g
  cases sm with
  | reg s => cases d with
    | true => exact barT_storable (nxt c)
    | false => exact barF_storable (prv c)
  | dma q => dsimp only [sch]; infer_instance

/-- A barrier cell has both duties in the first round. -/
theorem duties_bar (c : Dev nD) : (sch ov mv lv).duties (barCell c) 0 = Finset.univ := by dsimp only [sch]; exact if_pos ⟨rfl, rfl⟩
/-- A copy's cell has one duty in the first round. -/
theorem duties_d (c : Dev nD) (k : Fin 14) : (sch ov mv lv).duties (dCell c k) 0 = {false} := by dsimp only [sch]; exact if_pos ⟨rfl, rfl⟩
/-- No cell has a duty later. -/
theorem duties_later (g : GSem nD τ sig) : ∀ r, 1 ≤ r → (sch ov mv lv).duties g r = ∅ :=
  fun r hr => by dsimp only [sch]; rw [if_neg fun h => by omega]
/-- A barrier duty is one signal. -/
theorem amount_bar (c : Dev nD) (d : Bool) : (sch ov mv lv).amount (barCell c) 0 d = 1 := rfl
/-- A copy's duty is its bytes. -/
theorem amount_d (c : Dev nD) (k : Fin 14) (d : Bool) : (sch ov mv lv).amount (dCell c k) 0 d = amt k.val := by
  show amt (6 + k.val - 6) = _; rw [Nat.add_sub_cancel_left]
/-- A barrier's round is two signals. -/
theorem expect_bar (c : Dev nD) : (sch ov mv lv).expect (barCell c) 0 = 2 := by
  unfold Schedule.expect Schedule.amountOf
  rw [duties_bar, Finset.sum_congr rfl fun d _ => amount_bar ov mv lv c d, Finset.sum_const, Finset.card_univ, Fintype.card_bool, smul_eq_mul]
/-- A copy's round is its bytes. -/
theorem expect_d (c : Dev nD) (k : Fin 14) : (sch ov mv lv).expect (dCell c k) 0 = amt k.val := by
  unfold Schedule.expect Schedule.amountOf; rw [duties_d, Finset.sum_singleton, amount_d]
/-- What the right neighbour's signal hands over. -/
theorem payload_true (c : Dev nD) : (sch ov mv lv).payload (barCell c) 0 true = barT (nxt c) := rfl
/-- What the left neighbour's signal hands over. -/
theorem payload_false (c : Dev nD) : (sch ov mv lv).payload (barCell c) 0 false = barF (prv c) := rfl
/-- What a landing hands over. -/
theorem payload_d (c : Dev nD) (k : Fin 14) (d : Bool) : (sch ov mv lv).payload (dCell c k) 0 d = pay ov mv lv c k.val := by
  show pay ov mv lv c (6 + k.val - 6) = _; rw [Nat.add_sub_cancel_left]
/-- Both payloads of a barrier's round. -/
theorem rest_bar (c : Dev nD) : bigSep ((sch ov mv lv).duties (barCell c) 0 \ ∅) (fun d => (sch ov mv lv).payload (barCell c) 0 d)
    = iprop(barF (prv c) ∗ barT (nxt c)) := by
  rw [Finset.sdiff_empty, duties_bar, bigSep_univ_eq_bigSepL [false, true] (by decide) (by decide), bigSepL_cons_cons, bigSepL_singleton,
    payload_false, payload_true]
  rfl
/-- The payload of a copy's round. -/
theorem rest_d (c : Dev nD) (k : Fin 14) : bigSep ((sch ov mv lv).duties (dCell c k) 0 \ ∅) (fun d => (sch ov mv lv).payload (dCell c k) 0 d)
    = pay ov mv lv c k.val := by
  rw [Finset.sdiff_empty, duties_d, bigSep_singleton, payload_d]

/-! ## What a device owes, in the order it pays -/

/-- A list of debts as the tallies the logic counts: the first of the list is paid first. -/
def OL : List (GSem nD τ sig × ℕ) → CellTallies nD τ sig Unit
  | [] => 0
  | p :: l => OL l + tallyAt p.1 () p.2

/-- What a list owes a cell is the sum of its entries for that cell. -/
theorem OL_apply (l : List (GSem nD τ sig × ℕ)) (g : GSem nD τ sig) : OL l g () = (l.map fun p => if p.1 = g then p.2 else 0).sum := by
  induction l with
  | nil => rfl
  | cons p l ih =>
    show (OL l + tallyAt p.1 () p.2) g () = _
    rw [Pi.add_apply, Finsupp.add_apply, ih, tallyAt_apply, List.map_cons, List.sum_cons, Nat.add_comm]
    congr 1
    by_cases h : g = p.1
    · rw [if_pos ⟨h, rfl⟩, if_pos h.symm]
    · rw [if_neg (fun h' => h h'.1), if_neg (fun h' => h h'.symm)]
/-- A cell that is owed something is in the list. -/
theorem OL_pos {l : List (GSem nD τ sig × ℕ)} {g : GSem nD τ sig} {u : Unit} (h : 0 < OL l g u) : ∃ p ∈ l, p.1 = g := by
  cases u
  rw [OL_apply] at h
  by_contra hn
  rw [List.sum_eq_zero (by
    intro x hx
    obtain ⟨p, hp, rfl⟩ := List.mem_map.mp hx
    exact if_neg fun e => hn ⟨p, hp, e⟩)] at h
  exact Nat.lt_irrefl 0 h

/-- The debts from the last copy on, then from each earlier one on, up to the second signal. -/
abbrev oweD (c : Dev nD) : List (GSem nD τ sig × ℕ) := [(dCell (prv c) 7, amt 7)]
abbrev oweMC (c : Dev nD) : List (GSem nD τ sig × ℕ) := (dCell (nxt c) 13, amt 13) :: oweD c
abbrev oweC (c : Dev nD) : List (GSem nD τ sig × ℕ) := (dCell (nxt c) 6, amt 6) :: oweMC c
abbrev oweMB (c : Dev nD) : List (GSem nD τ sig × ℕ) := (dCell (prv c) 12, amt 12) :: oweC c
abbrev oweMA (c : Dev nD) : List (GSem nD τ sig × ℕ) := (dCell (nxt c) 11, amt 11) :: oweMB c
abbrev oweB (c : Dev nD) : List (GSem nD τ sig × ℕ) := (dCell (prv c) 5, amt 5) :: oweMA c
abbrev oweA (c : Dev nD) : List (GSem nD τ sig × ℕ) := (dCell (nxt c) 4, amt 4) :: oweB c
abbrev oweR (c : Dev nD) : List (GSem nD τ sig × ℕ) := (barCell (nxt c), 1) :: oweA c
/-- All that a device owes at launch. -/
abbrev oweL (c : Dev nD) : List (GSem nD τ sig × ℕ) := (barCell (prv c), 1) :: oweR c

/-! ## The levels -/

/-- Only TensorCores' cells have a level. -/
def Lt (g : GSem nD τ sig) : Finset Unit := if g.1.2 = .tc then {()} else ∅
/-- Barrier first, then the neighbours' own parts, then the relayed ones. -/
def lvD (k : ℕ) : ℕ := if k = 4 ∨ k = 5 ∨ k = 11 ∨ k = 12 then 2 else if k = 6 ∨ k = 7 ∨ k = 13 then 3 else 0
/-- The level of a cell. -/
def lev (g : GSem nD τ sig) (_ : Unit) : ℕ := match g.2 with | .reg _ => 1 | .dma q => lvD (q.val - 6)

/-- No other thread's cell has a level. -/
theorem Lt_of_ne (g : GSem nD τ sig) (h : g.1.2 ≠ .tc) : Lt g = ∅ := if_neg h
/-- A TensorCore's cell has one. -/
theorem Lt_tc (c : Dev nD) (sm : SemLoc sig) : Lt ((c : Thread nD τ), sm) = {()} := if_pos rfl

/-- Every debt of a device lies on a TensorCore's cell. -/
theorem owe_tc (c : Dev nD) : ∀ p ∈ oweL c, p.1.1.2 = .tc := by
  intro p hp
  simp only [List.mem_cons, List.mem_nil_iff, or_false] at hp
  rcases hp with rfl | rfl | rfl | rfl | rfl | rfl | rfl | rfl | rfl <;> rfl

/-- A device may wait on a cell whose level is below that of everything it still owes. -/
theorem mayWait (c : Dev nD) (sm : SemLoc sig) (l : List (GSem nD τ sig × ℕ)) (htc : ∀ p ∈ l, p.1.1.2 = .tc)
    (hl : ∀ p ∈ l, lev ((c : Thread nD τ), sm) () < lev p.1 ()) :
    (levAts Lt lev : sProp 𝕄) ⊢ MayWait (c : Thread nD τ) sm () (OL l) :=
  MayOwe.of_cut (L := Lt) (lev := lev) (lev ((c : Thread nD τ), sm) ())
    (fun p hp => by rw [Finset.mem_singleton.mp hp, Lt_tc]; exact Finset.mem_singleton_self _)
    (fun g u hg => by
      obtain ⟨p, hp, rfl⟩ := OL_pos hg
      show u ∈ Lt p.1
      unfold Lt; rw [if_pos (htc p hp)]; exact Finset.mem_singleton_self _)
    (fun p hp => by rw [Finset.mem_singleton.mp hp])
    (fun g u hg => by
      obtain ⟨p, hp, rfl⟩ := OL_pos hg
      exact hl p hp)

/-- A device that waits for a barrier cell, or for a staging copy, is below every debt. -/
theorem lev_owe_pos (c : Dev nD) : ∀ p ∈ oweL c, 0 < lev p.1 () := by
  intro p hp
  simp only [List.mem_cons, List.mem_nil_iff, or_false] at hp
  rcases hp with rfl | rfl | rfl | rfl | rfl | rfl | rfl | rfl | rfl <;> (dsimp only [lev]; decide)
/-- The barrier lies below every copy owed. -/
theorem lev_bar (c : Dev nD) : ∀ p ∈ oweA c, lev (barCell c) () < lev p.1 () := by
  intro p hp
  simp only [List.mem_cons, List.mem_nil_iff, or_false] at hp
  rcases hp with rfl | rfl | rfl | rfl | rfl | rfl | rfl <;> (dsimp only [lev]; decide)
/-- Every cell of the first two levels lies below the relayed copies. -/
theorem lev_d (c : Dev nD) (k : Fin 14) (hk : lvD k.val ≤ 2) : ∀ p ∈ oweC c, lev (dCell c k) () < lev p.1 () := by
  intro p hp
  have e : lev (dCell c k) () = lvD k.val := by show lvD (6 + k.val - 6) = _; rw [Nat.add_sub_cancel_left]
  rw [e]
  refine Nat.lt_of_le_of_lt hk ?_
  simp only [List.mem_cons, List.mem_nil_iff, or_false] at hp
  rcases hp with rfl | rfl | rfl <;> (dsimp only [lev]; decide)

end Cert.RingAttn
-- ==== Proof.Steps.lean ====
/-
# One rule for every copy and one for every wait

The kernel's seven copies between devices, its fourteen waits for them and its barrier use the same few rules of the
rounds library. This module states them once for the schedule of this kernel: what a device must hold to issue a
copy or to wait, and what it holds after.
-/
module

public import proofs.«01_k».proof.Proof.Protocol

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop of the kernel needs a variant. -/
abbrev 𝒱₀ : Variants := Variants.none

variable (ov : OPart F) (mv lv : MPart F)

/-! ## The records every device carries -/

/-- The barrier cells of all devices, and their cells of the kernel's own semaphores. -/
def barEmb : Dev nD ↪ GSem nD τ sig := ⟨fun c => barCell c, fun a b h => congrArg (fun g : GSem nD τ sig => g.1.1) h⟩
/-- The cell of a device and a copy semaphore. -/
def scEmb : Dev nD × Fin 14 ↪ GSem nD τ sig := ⟨fun p => dCell p.1 p.2, fun a b h => by
  have h1 : a.1 = b.1 := congrArg (fun g : GSem nD τ sig => g.1.1) h
  have h2 : dq a.2 = dq b.2 := SemLoc.dma.inj (congrArg (fun g : GSem nD τ sig => g.2) h)
  have h3 : 6 + a.2.val = 6 + b.2.val := congrArg Fin.val h2
  exact Prod.ext h1 (Fin.ext (by omega))⟩
/-- All barrier cells. -/
def barCells : Finset (GSem nD τ sig) := Finset.univ.map barEmb
/-- All copies' cells. -/
def scCells : Finset (GSem nD τ sig) := Finset.univ.map scEmb
/-- Every device's barrier cell is one. -/
theorem mem_bar (c : Dev nD) : barCell c ∈ barCells := Finset.mem_map.mpr ⟨c, Finset.mem_univ _, rfl⟩
/-- Every device's copy cell is one. -/
theorem mem_sc (c : Dev nD) (k : Fin 14) : dCell c k ∈ scCells := Finset.mem_map.mpr ⟨(c, k), Finset.mem_univ _, rfl⟩

/-- The invariants of all cells, and that every barrier's first round is open. -/
def records (κ : GSem nD τ sig → ℕ) : sProp 𝕄 :=
  iprop(bigSep (barCells ∪ scCells) (fun g => cellInv ER (sch ov mv lv) (κ g) g) ∗ bigSep barCells (fun g => reached ER g 0))
/-- The records can be copied. -/
instance records_persistent (κ : GSem nD τ sig → ℕ) : BI.Persistent (records ov mv lv κ) := by unfold records; infer_instance

/-- The records hold every cell's invariant. -/
theorem rec_inv (κ : GSem nD τ sig → ℕ) (g : GSem nD τ sig) (hg : g ∈ barCells ∪ scCells) : records ov mv lv κ ⊢ cellInv ER (sch ov mv lv) (κ g) g := by
  unfold records
  have h : bigSep (barCells ∪ scCells) (fun g => (cellInv ER (sch ov mv lv) (κ g) g : sProp 𝕄)) ⊢ cellInv ER (sch ov mv lv) (κ g) g := bigSep_elim hg
  iintro ⟨H, -⟩; iapply h; iexact H
/-- In particular a barrier's. -/
theorem rec_bar (κ : GSem nD τ sig → ℕ) (c : Dev nD) : records ov mv lv κ ⊢ cellInv ER (sch ov mv lv) (κ (barCell c)) (barCell c) :=
  rec_inv ov mv lv κ _ (Finset.mem_union_left _ (mem_bar c))
/-- And a copy's. -/
theorem rec_d (κ : GSem nD τ sig → ℕ) (c : Dev nD) (k : Fin 14) : records ov mv lv κ ⊢ cellInv ER (sch ov mv lv) (κ (dCell c k)) (dCell c k) :=
  rec_inv ov mv lv κ _ (Finset.mem_union_right _ (mem_sc c k))
/-- The records hold that a barrier's first round is open. -/
theorem rec_reached (κ : GSem nD τ sig → ℕ) (c : Dev nD) : records ov mv lv κ ⊢ reached ER (barCell c) 0 := by
  unfold records
  have h : bigSep barCells (fun g => (reached ER g 0 : sProp 𝕄)) ⊢ reached ER (barCell c) 0 := bigSep_elim (mem_bar c)
  iintro ⟨-, H⟩; iapply h; iexact H

/-- A device's debts, whatever it has waited for so far. -/
def ow (c : Dev nD) (l : List (GSem nD τ sig × ℕ)) : sProp 𝕄 := iprop(∃ W, owes (c : Thread nD τ) (OL l) W)

/-- What a copy by `c` from its semaphore `kS` onto `n`'s semaphore `kR` spends besides the two pieces. -/
def rights (c n : Dev nD) (kS kR : Fin 14) : sProp 𝕄 :=
  iprop(dutyTok ER (dCell c kS) 0 false ∗ reached ER (dCell c kS) 0 ∗ dutyTok ER (dCell n kR) 0 false ∗ reached ER (dCell n kR) 0)
/-- What a wait on `c`'s semaphore `k` spends. -/
def claimOn (c : Dev nD) (k : Fin 14) (N : ℕ) : sProp 𝕄 := iprop(cred (tallyAt (dCell c k) () N) ∗ atPos ER (dCell c k) 0 ∅ 0)

/-- Device `c` can run `p` and end with `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A copy: with the first debt the one it pays, the source piece lent and the target piece owned, it leaves the credit of the
    source's return and one debt less. -/
theorem wp_copy (κ : GSem nD τ sig → ℕ) (c n n' : Dev nD) (hn : n' = n) (kS kR : Fin 14) {s : Shape} {e : EltTy} {src dst : Memref sig .tc .vmem s e}
    {hsc : (dst : Memref sig (Dev.tc n' : Thread nD τ).2.kind .vmem s e).view.ref.isScScratch = false}
    {hsrc : src.view.WordExact} {hdst : (dst : Memref sig .tc .vmem s e).view.WordExact}
    {hsem : DmaTarget.Typed .vmem (.dma (dq kR)) (.remote (Dev.tc n' : Thread nD τ) (dst : Memref sig .tc .vmem s e) (.dma (dq kS)) hsc)}
    {S : Finset (Idx (src.view.loc (c : Thread nD τ)))} {T : Finset (Idx (dst.view.loc (n : Thread nD τ)))}
    (hS : src.view.set = S) (hT : dst.view.set = T)
    (q : PosShare TreeShare) (fs : Buf (Elt F) (src.view.loc (c : Thread nD τ))) (fd : Buf (Elt F) (dst.view.loc (n : Thread nD τ)))
    (l : List (GSem nD τ sig × ℕ)) (N : ℕ) (hN : dst.view.dmaCredit = N) (hk : amt kS.val = N) (hk' : amt kR.val = N)
    (hpay₁ : (src.view.loc (c : Thread nD τ) ↦[S]{q} fs : sProp 𝕄) ⊢ pay ov mv lv c kS.val)
    (hpay₂ : (dst.view.loc (n : Thread nD τ) ↦[T]{fullShare} (dst.view.write (Elt F) fd (src.view.read (Elt F) fs) Finset.univ) : sProp 𝕄) ⊢ pay ov mv lv n kR.val)
    {α : Type} {Q : α → sProp 𝕄} {k : PUnit → Prog (TpuEff nD τ sig (Elt F) Λ₀ .tc) α} :
    iprop(records ov mv lv κ ∗ (src.view.loc (c : Thread nD τ) ↦[S]{q} fs) ∗ (dst.view.loc (n : Thread nD τ) ↦[T]{fullShare} fd)
        ∗ ow c ((dCell n kR, N) :: l) ∗ rights c n kS kR)
      ⊢ iprop(((cred (tallyAt (dCell c kS) () N) ∗ ow c l) -∗ WP c (k ⟨⟩) Q)
          -∗ WP c (.op (.enqueueDma src (.remote (Dev.tc n' : Thread nD τ) dst (.dma (dq kS)) hsc) (.dma (dq kR)) hsrc hdst hsem) k) Q) := by
  subst hn; subst hS; subst hT
  unfold ow rights
  iintro ⟨#HR, Hs, Hd, ⟨%W, HO⟩, Ht1, Hr1, Ht2, Hr2⟩ Hk
  iapply (Rounds.wp_send_pointsTo 𝒱₀ ER (sch ov mv lv) (c : Thread nD τ) none (κ₁ := κ (dCell c kS)) (κ₂ := κ (dCell n' kR))
    (r₁ := 0) (r₂ := 0) (d₁ := false) (d₂ := false) (fd := fd)
    (by rw [duties_d]; exact Finset.mem_singleton_self _) (by rw [duties_d]; exact Finset.mem_singleton_self _)
    () () N (show dst.view.amount (.dma (dq kR)) = _ from hN) ((amount_d ov mv lv c kS false).trans hk) ((amount_d ov mv lv n' kR false).trans hk') (OL l) rfl (W := W)
    (by rw [payload_d]; exact hpay₁) (by rw [payload_d]; exact hpay₂)) $$ [Hs Hd HO Ht1 Hr1 Ht2 Hr2]
  · isplitr; · iapply (rec_d ov mv lv κ c kS); iexact HR
    isplitr; · iapply (rec_d ov mv lv κ n' kR); iexact HR
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-- A wait on the device's `k`-th semaphore, below everything it still owes: it is handed that semaphore's payload. -/
theorem wp_await (κ : GSem nD τ sig → ℕ) (c : Dev nD) (k : Fin 14) (l : List (GSem nD τ sig × ℕ)) (htc : ∀ p ∈ l, p.1.1.2 = .tc)
    (hl : ∀ p ∈ l, lev (dCell c k) () < lev p.1 ()) {s : Shape} {e : EltTy} {src dst : Memref sig .tc .vmem s e}
    {hsrc : src.view.WordExact} {hdst : dst.view.WordExact} (N : ℕ) (hN : dst.view.dmaCredit = N) (hk : amt k.val = N)
    (P : sProp 𝕄) (hP : pay ov mv lv c k.val = P)
    {α : Type} {Q : α → sProp 𝕄} {kk : PUnit → Prog (TpuEff nD τ sig (Elt F) Λ₀ .tc) α} :
    iprop(records ov mv lv κ ∗ levAts Lt lev ∗ ow c l ∗ claimOn c k N)
      ⊢ iprop(((ow c l ∗ atPos ER (dCell c k) (0 + 1) ∅ 0 ∗ P) -∗ WP c (kk ⟨⟩) Q)
          -∗ WP c (.op (.waitDma2 (dq k) src dst hsrc hdst) kk) Q) := by
  unfold ow claimOn
  iintro ⟨#HR, #Hlev, ⟨%W, HO⟩, Hc, Hat⟩ Hk
  iapply (Rounds.wp_wait_rest_token 𝒱₀ ER (sch ov mv lv) (c : Thread nD τ) none (κ := κ (dCell c k))
      (wpE_waitDma2_eq 𝒱₀ (c : Thread nD τ) none Set.univ) (Set.mem_univ _) () (O := OL l) (W := W) (R := 0) (m := 0) (T := ∅)
      (by rw [Nat.zero_add, expect_d ov mv lv c k]; exact hN.trans hk.symm)) $$ [HO Hc Hat]
  · isplitr; · iapply (rec_d ov mv lv κ c k); iexact HR
    isplitl [Hc]; · rw [hN]; iexact Hc
    isplitl [HO]; · iexact HO
    isplitr; · iapply (mayWait c (.dma (dq k)) l htc hl); iexact Hlev
    iexact Hat
  iintro ⟨HO, Hat, -, Hpay⟩
  iapply Hk
  isplitl [HO]; · iexists _; iexact HO
  isplitl [Hat]; · iexact Hat
  iapply (Entails.of_eq ((rest_d ov mv lv c k).trans hP)); iexact Hpay

/-! ## Reading a slot -/

/-- A load through a rectangle, when the value it reads is known. -/
theorem wp_reads (c : Dev nD) {s : Shape} {e : EltTy} {m : Memref sig .tc .vmem s e} {r : Rect s} {hl : m.view.LoadsAt r.toLoadRect}
    {S : Finset (Idx ((m.access r).loc (c : Thread nD τ)))} {q : PosShare TreeShare} {f : Buf (Elt F) ((m.access r).loc (c : Thread nD τ))}
    {v : r.shape.Idx → Elt F e} (hv : (m.access r).read (Elt F) f = v) (hS : (m.access r).set ⊆ S)
    {α : Type} {Q : α → sProp 𝕄} {k : (r.shape.Idx → Elt F e) → Prog (TpuEff nD τ sig (Elt F) Λ₀ .tc) α} :
    ((m.access r).loc (c : Thread nD τ) ↦[S]{q} f)
      ⊢ iprop((((m.access r).loc (c : Thread nD τ) ↦[S]{q} f) -∗ WP c (k v) Q) -∗ WP c (.op (.load m r.toLoadRect hl) k) Q) := by
  subst hv
  exact wp_load_rect 𝒱₀ (c : Thread nD τ) none Set.univ hS

/-- A rectangle of the output buffer, seen as indices of the buffer. -/
theorem sub_oM (r : Rect S4x256x1024) (S : Finset S4x256x1024.Idx) (h : r.set ⊆ S) : (oM.access r).set ⊆ S :=
  (subset_of_eq (View.set_slice_whole cc0_scratch0 r)).trans h
/-- A rectangle of the statistics buffer, seen as indices of the buffer. -/
theorem sub_mM (r : Rect S4x256x16) (S : Finset S4x256x16.Idx) (h : r.set ⊆ S) : (mM.access r).set ⊆ S :=
  (subset_of_eq (View.set_slice_whole cc0_scratch1 r)).trans h

/-- A load of a slot of outputs from a buffer filled as planned. -/
theorem wp_slot (c : Dev nD) (a : ℕ) (inb) (q : PosShare TreeShare)
    {hl : oM.view.LoadsAt (Rect.unit (s := S4x256x1024) ![a, 0, 0] S1x256x1024.size inb).toLoadRect}
    {α : Type} {Q : α → sProp 𝕄} {k : (S1x256x1024.Idx → Elt F .bf16) → Prog (TpuEff nD τ sig (Elt F) Λ₀ .tc) α} :
    oP q (oRows a 0 256) c (oBuf ov c)
      ⊢ iprop((oP q (oRows a 0 256) c (oBuf ov c) -∗ WP c (k (ov (src a c))) Q)
          -∗ WP c (.op (.load oM (Rect.unit (s := S4x256x1024) ![a, 0, 0] S1x256x1024.size inb).toLoadRect hl) k) Q) :=
  wp_reads c (read_oBuf ov c a inb) (sub_oM _ _ (subset_of_eq (set_rO a 0 256)))
/-- A load of the first eight columns of a slot of statistics. -/
theorem wp_max (c : Dev nD) (a : ℕ) (inb) (q : PosShare TreeShare)
    {hl : mM.view.LoadsAt (Rect.unit (s := S4x256x16) ![a, 0, 0] S1x256x8.size inb).toLoadRect}
    {α : Type} {Q : α → sProp 𝕄} {k : (S1x256x8.Idx → Elt F .f32) → Prog (TpuEff nD τ sig (Elt F) Λ₀ .tc) α} :
    mP q (mSlot a) c (mBuf mv lv c)
      ⊢ iprop((mP q (mSlot a) c (mBuf mv lv c) -∗ WP c (k (mv (src a c))) Q)
          -∗ WP c (.op (.load mM (Rect.unit (s := S4x256x16) ![a, 0, 0] S1x256x8.size inb).toLoadRect hl) k) Q) :=
  wp_reads c (read_mBuf mv lv c a inb) (sub_mM _ _ (sub_rM8 a 0))
/-- A load of the last eight. -/
theorem wp_sum (c : Dev nD) (a : ℕ) (inb) (q : PosShare TreeShare)
    {hl : mM.view.LoadsAt (Rect.unit (s := S4x256x16) ![a, 0, 8] S1x256x8.size inb).toLoadRect}
    {α : Type} {Q : α → sProp 𝕄} {k : (S1x256x8.Idx → Elt F .f32) → Prog (TpuEff nD τ sig (Elt F) Λ₀ .tc) α} :
    mP q (mSlot a) c (mBuf mv lv c)
      ⊢ iprop((mP q (mSlot a) c (mBuf mv lv c) -∗ WP c (k (lv (src a c))) Q)
          -∗ WP c (.op (.load mM (Rect.unit (s := S4x256x16) ![a, 0, 8] S1x256x8.size inb).toLoadRect hl) k) Q) :=
  wp_reads c (read_lBuf mv lv c a inb) (sub_mM _ _ (sub_rM8 a 8))

end Cert.RingAttn
-- ==== Proof.Vals.lean ====
/-
# The values the kernel's body computes

The body of one device is a function of the five blocks it loads and of the nine parts it receives. This module names the
value of every result a part of the body passes on, in the order the body computes them: up to `V152` from the own blocks
alone, then the three combining steps.
-/
module

public import proofs.«01_k».proof.Proof.Steps

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The five blocks a device loads. -/
structure Ins (F : FTy → Type) [FloatOps F] where
  x : S1x256x1024.Idx → Elt F .bf16
  wq : S1024x1024.Idx → Elt F .bf16
  wo : S1024x1024.Idx → Elt F .bf16
  k : S4096x256.Idx → Elt F .bf16
  v : S4096x256.Idx → Elt F .bf16

/-- The parts received, in the order they are combined: the left neighbour's, the right neighbour's, the opposite device's. -/
structure Got (F : FTy → Type) [FloatOps F] where
  m1 : S1x256x8.Idx → Elt F .f32
  l1 : S1x256x8.Idx → Elt F .f32
  o1 : S1x256x1024.Idx → Elt F .bf16
  m2 : S1x256x8.Idx → Elt F .f32
  l2 : S1x256x8.Idx → Elt F .f32
  o2 : S1x256x1024.Idx → Elt F .bf16
  m3 : S1x256x8.Idx → Elt F .f32
  l3 : S1x256x8.Idx → Elt F .f32
  o3 : S1x256x1024.Idx → Elt F .bf16

/-- The two 128-column halves of a block of keys or of values. -/
def kcol0 (x : S4096x256.Idx → Elt F .bf16) : Vec F S4096x128 .bf16 :=
  fun y => x ((Rect.unit (s := S4096x256) ![0, 0] S4096x128.size inb_S4096x256_S4096x128_0_0).emb y)
/-- The right half. -/
def kcol1 (x : S4096x256.Idx → Elt F .bf16) : Vec F S4096x128 .bf16 :=
  fun y => x ((Rect.unit (s := S4096x256) ![0, 128] S4096x128.size inb_S4096x256_S4096x128_0_128).emb y)

/-! ## The results in order -/

/-- Each result of the body, in the order and by the number of the kernel's text, from the blocks loaded and the parts received. -/
def V36 (I : Ins F) : FVec F S256x1024 .bf16 := k0_pay1 I.x I.wq
def V38 (I : Ins F) : FVec F S4096x128 .bf16 := k0_pay2 (kcol0 I.k)
def V40 (I : Ins F) : FVec F S4096x128 .bf16 := k0_pay3 (kcol0 I.v)
def V46 (I : Ins F) : FVec F S256x1 .f32 := k0_pay5 I.x I.wq (kcol0 I.k)
def V51 (I : Ins F) : FVec F S256x1 .f32 := k0_pay7 I.x I.wq (kcol0 I.k)
def V53 (I : Ins F) : FVec F S256x128 .f32 := k0_pay8 I.x I.wq (kcol0 I.k) (kcol0 I.v)
def V59 (I : Ins F) : FVec F S256x1 .f32 := k0_pay10 I.x I.wq (kcol0 I.k)
def V64 (I : Ins F) : FVec F S256x1 .f32 := k0_pay12 I.x I.wq (kcol0 I.k)
def V66 (I : Ins F) : FVec F S256x128 .f32 := k0_pay13 I.x I.wq (kcol0 I.k) (kcol0 I.v)
def V68 (I : Ins F) : FVec F S256x4096 .f32 := k0_pay14 I.x I.wq (kcol0 I.k)
def V72 (I : Ins F) : FVec F S256x1 .f32 := k0_pay16 (V68 I) (Scalar.ofBits .f32 0x3DB504F3#32)
def V77 (I : Ins F) : FVec F S256x1 .f32 := k0_pay18 (V68 I) (Scalar.ofBits .f32 0x3DB504F3#32)
def V79 (I : Ins F) : FVec F S256x128 .f32 := k0_pay19 (V40 I) (V68 I) (Scalar.ofBits .f32 0x3DB504F3#32)
def V85 (I : Ins F) : FVec F S256x1 .f32 := k0_pay21 (V36 I) (V38 I)
def V90 (I : Ins F) : FVec F S256x1 .f32 := k0_pay23 (V36 I) (V38 I)
def V92 (I : Ins F) : FVec F S256x128 .f32 := k0_pay24 (V36 I) (V38 I) (V40 I)
def V94 (I : Ins F) : FVec F S4096x128 .bf16 := k0_pay25 (kcol1 I.k)
def V96 (I : Ins F) : FVec F S4096x128 .bf16 := k0_pay26 (kcol1 I.v)
def V102 (I : Ins F) : FVec F S256x1 .f32 := k0_pay28 (V36 I) (kcol1 I.k)
def V107 (I : Ins F) : FVec F S256x1 .f32 := k0_pay30 (V36 I) (kcol1 I.k)
def V109 (I : Ins F) : FVec F S256x128 .f32 := k0_pay31 (V36 I) (kcol1 I.k) (kcol1 I.v)
def V110 (I : Ins F) : FVec F S256x128 .bf16 := k0_pay32 (V36 I)
def V122 (I : Ins F) : FVec F S256x128 .f32 := k0_pay36 (V94 I) (V96 I) (V110 I) (constant S256x4096 .f32 0x00000000#32)
def V135 (I : Ins F) : FVec F S256x128 .f32 := k0_pay40 (V36 I) (V94 I) (V96 I)
def V148 (I : Ins F) : FVec F S256x128 .f32 := k0_pay44 (V36 I) (V94 I) (V96 I)
def V149 (I : Ins F) : FVec F S256x8 .f32 := k0_pay45 (V36 I) (V46 I) (V59 I) (V72 I) (V85 I) (V94 I) (V102 I) (V110 I) (constant S256x4096 .f32 0x00000000#32)
def V150 (I : Ins F) : FVec F S256x8 .f32 := k0_pay46 (V36 I) (V51 I) (V64 I) (V77 I) (V90 I) (V94 I) (V107 I) (V110 I) (constant S256x4096 .f32 0x00000000#32)
def V152 (I : Ins F) : FVec F S256x1024 .bf16 := k0_pay47 (V36 I) (V53 I) (V66 I) (V79 I) (V92 I) (V94 I) (V96 I) (V109 I) (V110 I) (constant S256x4096 .f32 0x00000000#32)
def V268 (I : Ins F) (G : Got F) : FVec F S256x8 .f32 := k0_pay52 (V149 I) G.m1
def V270 (I : Ins F) (G : Got F) : FVec F S256x8 .f32 := k0_pay53 (V149 I) G.m1
def V272 (I : Ins F) (G : Got F) : FVec F S256x8 .f32 := k0_pay54 (V149 I) G.m1
def V275 (I : Ins F) (G : Got F) : FVec F S256x8 .f32 := k0_pay55 (V149 I) (V150 I) G.m1 G.l1
def V278 (I : Ins F) (G : Got F) : FVec F S256x1024 .f32 := k0_pay56 G.o1
def V286 (I : Ins F) (G : Got F) : FVec F S256x128 .f32 := k0_pay57 (V53 I) (V149 I) G.m1 G.o1
def V294 (I : Ins F) (G : Got F) : FVec F S256x128 .f32 := k0_pay58 (V66 I) (V149 I) G.m1 G.o1
def V302 (I : Ins F) (G : Got F) : FVec F S256x128 .f32 := k0_pay59 (V79 I) (V149 I) G.m1 G.o1
def V310 (I : Ins F) (G : Got F) : FVec F S256x128 .f32 := k0_pay60 (V92 I) (V149 I) G.m1 G.o1
def V313 (I : Ins F) (G : Got F) : FVec F S256x128 .f32 := k0_pay61 (V109 I) (V149 I) G.m1
def V314 (I : Ins F) (G : Got F) : FVec F S256x128 .f32 := k0_pay62 G.o1
def V318 (I : Ins F) (G : Got F) : FVec F S256x128 .f32 := k0_pay63 (V272 I G) (V313 I G) (V314 I G)
def V326 (I : Ins F) (G : Got F) : FVec F S256x128 .f32 := k0_pay64 (V122 I) (V270 I G) (V272 I G) (V278 I G)
def V334 (I : Ins F) (G : Got F) : FVec F S256x128 .f32 := k0_pay65 (V135 I) (V270 I G) (V272 I G) (V278 I G)
def V342 (I : Ins F) (G : Got F) : FVec F S256x128 .f32 := k0_pay66 (V148 I) (V270 I G) (V272 I G) (V278 I G)
def V347 (I : Ins F) (G : Got F) : FVec F S256x8 .f32 := k0_pay68 (V268 I G) G.m2
def V349 (I : Ins F) (G : Got F) : FVec F S256x8 .f32 := k0_pay69 (V268 I G) G.m2
def V351 (I : Ins F) (G : Got F) : FVec F S256x8 .f32 := k0_pay70 (V268 I G) G.m2
def V354 (I : Ins F) (G : Got F) : FVec F S256x8 .f32 := k0_pay71 (V268 I G) (V275 I G) G.m2 G.l2
def V357 (I : Ins F) (G : Got F) : FVec F S256x1024 .f32 := k0_pay72 G.o2
def V365 (I : Ins F) (G : Got F) : FVec F S256x128 .f32 := k0_pay73 (V268 I G) (V286 I G) G.m2 G.o2
def V373 (I : Ins F) (G : Got F) : FVec F S256x128 .f32 := k0_pay74 (V294 I G) (V349 I G) (V351 I G) (V357 I G)
def V381 (I : Ins F) (G : Got F) : FVec F S256x128 .f32 := k0_pay75 (V302 I G) (V349 I G) (V351 I G) (V357 I G)
def V389 (I : Ins F) (G : Got F) : FVec F S256x128 .f32 := k0_pay76 (V310 I G) (V349 I G) (V351 I G) (V357 I G)
def V397 (I : Ins F) (G : Got F) : FVec F S256x128 .f32 := k0_pay77 (V318 I G) (V349 I G) (V351 I G) (V357 I G)
def V405 (I : Ins F) (G : Got F) : FVec F S256x128 .f32 := k0_pay78 (V326 I G) (V349 I G) (V351 I G) (V357 I G)
def V413 (I : Ins F) (G : Got F) : FVec F S256x128 .f32 := k0_pay79 (V334 I G) (V349 I G) (V351 I G) (V357 I G)
def V421 (I : Ins F) (G : Got F) : FVec F S256x128 .f32 := k0_pay80 (V342 I G) (V349 I G) (V351 I G) (V357 I G)
def V447 (I : Ins F) (G : Got F) : FVec F S256x8 .f32 := k0_pay81 G.m3
def V452 (I : Ins F) (G : Got F) : FVec F S256x8 .f32 := k0_pay83 (V347 I G) (V447 I G)
def V454 (I : Ins F) (G : Got F) : FVec F S256x8 .f32 := k0_pay84 (V347 I G) (V447 I G)
def V457 (I : Ins F) (G : Got F) : FVec F S256x8 .f32 := k0_pay85 (V347 I G) (V354 I G) (V447 I G) G.l3
def V460 (I : Ins F) (G : Got F) : FVec F S256x1024 .f32 := k0_pay86 G.o3
def V468 (I : Ins F) (G : Got F) : FVec F S256x128 .f32 := k0_pay87 (V347 I G) (V365 I G) (V447 I G) G.o3
def V476 (I : Ins F) (G : Got F) : FVec F S256x128 .f32 := k0_pay88 (V347 I G) (V373 I G) (V447 I G) G.o3
def V484 (I : Ins F) (G : Got F) : FVec F S256x128 .f32 := k0_pay89 (V347 I G) (V381 I G) (V447 I G) G.o3
def V492 (I : Ins F) (G : Got F) : FVec F S256x128 .f32 := k0_pay90 (V347 I G) (V389 I G) (V447 I G) G.o3
def V500 (I : Ins F) (G : Got F) : FVec F S256x128 .f32 := k0_pay91 (V347 I G) (V397 I G) (V447 I G) G.o3
def V503 (I : Ins F) (G : Got F) : FVec F S256x128 .f32 := k0_pay92 (V347 I G) (V405 I G) (V447 I G)
/-- The result of the device: everything combined, divided by the sums, and multiplied by the output projection. -/
def outV (I : Ins F) (G : Got F) : S1x256x1024.Idx → Elt F .f32 := k0_pay93 (V413 I G) (V421 I G) (V452 I G) (V454 I G) (V457 I G) (V460 I G) (V468 I G) (V476 I G) (V484 I G) (V492 I G) (V500 I G) (V503 I G) I.wo

end Cert.RingAttn
-- ==== Proof.BodyA.lean ====
/-
# The communicating parts of the kernel's body

Part 1 signals both neighbours and waits for them; parts 5 to 8 store the own results, copy them to both neighbours and
relay half of what arrives. Each theorem runs one part: the resources it starts from, and those it ends with.
-/
module

public import proofs.«01_k».proof.Proof.Steps

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ov : OPart F) (mv lv : MPart F)

/-! ## What each copy hands over -/

/-- The part that the left neighbour's copy brings is, seen from the right neighbour, the opposite device's; and the other way round. -/
theorem relay_r (c : Dev nD) : src 1 c = src 3 (nxt c) := by show prv c = nxt (nxt (nxt c)); revert c; decide
/-- The right neighbour's part is, seen from the left neighbour, the opposite device's. -/
theorem relay_l (c : Dev nD) : src 2 c = src 3 (prv c) := by show nxt c = nxt (nxt (prv c)); rw [nxt_prv]

/-- The whole slot sent to the right fills slot 1 there as planned. -/
theorem lands_a (c : Dev nD) (fd : OBuf F) :
    (oS1.view.loc (nxt c : Thread nD τ) ↦[oRows 1 0 256]{fullShare} (oS1.view.write (Elt F) fd (oS0.view.read (Elt F) (oBuf ov c)) Finset.univ) : sProp 𝕄)
      ⊢ pay ov mv lv (nxt c) 4 :=
  Entails.of_eq (pointsTo_congr fun i hi => land_o ov 0 1 0 256 (prv_nxt c).symm _ _ _ _ _ fd i ((set_oS1).symm ▸ hi))
/-- The whole slot sent to the left fills slot 2 there as planned. -/
theorem lands_b (c : Dev nD) (fd : OBuf F) :
    (oS2.view.loc (prv c : Thread nD τ) ↦[oRows 2 0 256]{fullShare} (oS2.view.write (Elt F) fd (oS0.view.read (Elt F) (oBuf ov c)) Finset.univ) : sProp 𝕄)
      ⊢ pay ov mv lv (prv c) 5 :=
  Entails.of_eq (pointsTo_congr fun i hi => land_o ov 0 2 0 256 (nxt_prv c).symm _ _ _ _ _ fd i ((set_oS2).symm ▸ hi))
/-- The upper half relayed to the right fills the upper half of slot 3 there as planned. -/
theorem lands_c (c : Dev nD) (fd : OBuf F) :
    (oS3l.view.loc (nxt c : Thread nD τ) ↦[oRows 3 0 128]{fullShare} (oS3l.view.write (Elt F) fd (oS1l.view.read (Elt F) (oBuf ov c)) Finset.univ) : sProp 𝕄)
      ⊢ pay ov mv lv (nxt c) 6 :=
  Entails.of_eq (pointsTo_congr fun i hi => land_o ov 1 3 0 128 (relay_r c) _ _ _ _ _ fd i ((set_oS3l).symm ▸ hi))
/-- The lower half relayed to the left fills the lower half of slot 3 there as planned. -/
theorem lands_d (c : Dev nD) (fd : OBuf F) :
    (oS3h.view.loc (prv c : Thread nD τ) ↦[oRows 3 128 128]{fullShare} (oS3h.view.write (Elt F) fd (oS2h.view.read (Elt F) (oBuf ov c)) Finset.univ) : sProp 𝕄)
      ⊢ pay ov mv lv (prv c) 7 :=
  Entails.of_eq (pointsTo_congr fun i hi => land_o ov 2 3 128 128 (relay_l c) _ _ _ _ _ fd i ((set_oS3h).symm ▸ hi))
/-- The statistics sent to the right fill slot 1 there as planned. -/
theorem lands_ma (c : Dev nD) (fd : MBuf F) :
    (mS1.view.loc (nxt c : Thread nD τ) ↦[mSlot 1]{fullShare} (mS1.view.write (Elt F) fd (mS0.view.read (Elt F) (mBuf mv lv c)) Finset.univ) : sProp 𝕄)
      ⊢ pay ov mv lv (nxt c) 11 :=
  Entails.of_eq (pointsTo_congr fun i hi => land_m mv lv 0 1 (prv_nxt c).symm _ _ _ _ _ fd i ((set_mS1).symm ▸ hi))
/-- The statistics sent to the left fill slot 2 there as planned. -/
theorem lands_mb (c : Dev nD) (fd : MBuf F) :
    (mS2.view.loc (prv c : Thread nD τ) ↦[mSlot 2]{fullShare} (mS2.view.write (Elt F) fd (mS0.view.read (Elt F) (mBuf mv lv c)) Finset.univ) : sProp 𝕄)
      ⊢ pay ov mv lv (prv c) 12 :=
  Entails.of_eq (pointsTo_congr fun i hi => land_m mv lv 0 2 (nxt_prv c).symm _ _ _ _ _ fd i ((set_mS2).symm ▸ hi))
/-- The statistics relayed to the right fill slot 3 there as planned. -/
theorem lands_mc (c : Dev nD) (fd : MBuf F) :
    (mS3.view.loc (nxt c : Thread nD τ) ↦[mSlot 3]{fullShare} (mS3.view.write (Elt F) fd (mS1.view.read (Elt F) (mBuf mv lv c)) Finset.univ) : sProp 𝕄)
      ⊢ pay ov mv lv (nxt c) 13 :=
  Entails.of_eq (pointsTo_congr fun i hi => land_m mv lv 1 3 (relay_r c) _ _ _ _ _ fd i ((set_mS3).symm ▸ hi))

/-! ## Paying down the debts -/

/-- The debts left before the first relayed copy lie on TensorCores' cells. -/
theorem tcC (c : Dev nD) : ∀ p ∈ oweC c, p.1.1.2 = .tc := fun p hp => owe_tc c p (by simp only [List.mem_cons] at hp ⊢; tauto)
/-- So do the debts left once the barrier is signalled. -/
theorem tcA (c : Dev nD) : ∀ p ∈ oweA c, p.1.1.2 = .tc := fun p hp => owe_tc c p (List.mem_cons_of_mem _ (List.mem_cons_of_mem _ hp))
/-- So does the last debt. -/
theorem tcD (c : Dev nD) : ∀ p ∈ oweD c, p.1.1.2 = .tc := fun p hp => tcC c p (List.mem_cons_of_mem _ (List.mem_cons_of_mem _ hp))
/-- Every cell of the first two levels lies below the last debt. -/
theorem levD (c : Dev nD) (k : Fin 14) (hk : lvD k.val ≤ 2) : ∀ p ∈ oweD c, lev (dCell c k) () < lev p.1 () :=
  fun p hp => lev_d c k hk p (List.mem_cons_of_mem _ (List.mem_cons_of_mem _ hp))

variable {a0 : Memref sig .tc .vmem S1x256x1024 .bf16} {h0 : a0.IsWhole} {a1 a2 : Memref sig .tc .vmem S1024x1024 .bf16} {h1 : a1.IsWhole} {h2 : a2.IsWhole}
  {a3 a4 : Memref sig .tc .vmem S4096x256 .bf16} {h3 : a3.IsWhole} {h4 : a4.IsWhole} {a5 : Memref sig .tc .vmem S1x256x1024 .f32} {h5 : a5.IsWhole}
  {ho : oM.IsWhole} {hm : mM.IsWhole}

/-! ## The parts -/

/-- Part 1: both neighbours are told that this device's buffers may be filled, and both have told this device. -/
theorem part1 (κ : GSem nD τ sig → ℕ) (c : Dev nD) (Q : (Σ' (d0 : Dev nD) (v14 : BitVec 32), BitVec 32) → sProp 𝕄) :
    iprop((records ov mv lv κ ∗ levAts Lt lev ∗ ow c (oweL c) ∗ dutyTok ER (barCell (prv c)) 0 true ∗ dutyTok ER (barCell (nxt c)) 0 false
        ∗ barT c ∗ barF c ∗ cred (tallyAt (barCell c) () 2) ∗ atPos ER (barCell c) 0 ∅ 0)
      ∗ ((ow c (oweA c) ∗ atPos ER (barCell c) (0 + 1) ∅ 0 ∗ barF (prv c) ∗ barT (nxt c)) -∗ ∀ v14 v25, Q ⟨c, v14, v25⟩))
      ⊢ WP c (k0_part1 (F := F) a0 h0 a1 h1 a2 h2 a3 h3 a4 h4 a5 h5 oM ho mM hm cc0_scratch2 cc0_scratch3 cc0_scratch4 cc0_scratch5) Q := by
  simp only [k0_part1_eq_skeleton]
  unfold k0_part1_skel
  simp only [semSignalWord, semWaitWord, Prog.lift, Prog.bind_op, Prog.bind_ret, Prog.pure_eq_ret, Prog.bind_assoc, wp_deviceId]
  unfold ow
  iintro ⟨⟨#HR, #Hlev, ⟨%W, HO⟩, Ht1, Ht2, Hp, Hn, Hc, Hat⟩, HQ⟩
  simp only [dev1_eq c, dev2_eq c]
  iapply (Rounds.wp_signal 𝒱₀ ER (sch ov mv lv) (c : Thread nD τ) none (dst := (prv c : Thread nD τ)) (κ := κ (barCell (prv c)))
      (d := true) (by rw [duties_bar]; exact Finset.mem_univ _) ((amount_bar ov mv lv (prv c) true).trans (by decide)) () (OL (oweR c)) rfl)
    $$ [HO Ht1 Hp]
  · isplitr; · iapply (rec_bar ov mv lv κ (prv c)); iexact HR
    isplitl [HO]; · iexact HO
    isplitl [Ht1]; · iexact Ht1
    isplitl [Hp]
    · rw [payload_true, nxt_prv]; iexact Hp
    · iapply (rec_reached ov mv lv κ (prv c)); iexact HR
  iintro HO
  iapply (Rounds.wp_signal 𝒱₀ ER (sch ov mv lv) (c : Thread nD τ) none (dst := (nxt c : Thread nD τ)) (κ := κ (barCell (nxt c)))
      (d := false) (by rw [duties_bar]; exact Finset.mem_univ _) ((amount_bar ov mv lv (nxt c) false).trans (by decide)) () (OL (oweA c)) rfl)
    $$ [HO Ht2 Hn]
  · isplitr; · iapply (rec_bar ov mv lv κ (nxt c)); iexact HR
    isplitl [HO]; · iexact HO
    isplitl [Ht2]; · iexact Ht2
    isplitl [Hn]
    · rw [payload_false, prv_nxt]; iexact Hn
    · iapply (rec_reached ov mv lv κ (nxt c)); iexact HR
  iintro HO
  iapply (Rounds.wp_wait_rest_token 𝒱₀ ER (sch ov mv lv) (c : Thread nD τ) none (κ := κ (barCell c))
      (wpE_semWait_eq 𝒱₀ (c : Thread nD τ) none Set.univ) (Set.mem_univ _) () (O := OL (oweA c)) (W := W) (R := 0) (m := 0) (T := ∅)
      (by rw [expect_bar]; decide)) $$ [Hc HO Hat]
  · isplitr; · iapply (rec_bar ov mv lv κ c); iexact HR
    isplitl [Hc]; · iexact Hc
    isplitl [HO]; · iexact HO
    isplitr; · iapply (mayWait c (.reg barS) (oweA c) (tcA c) (lev_bar c)); iexact Hlev
    iexact Hat
  iintro ⟨HO, Hat, -, Hpay⟩
  ihave Hp2 := (Entails.of_eq (rest_bar ov mv lv c)) $$ Hpay
  icases Hp2 with ⟨HF, HT⟩
  simp only [wp_ret]
  imodintro
  iapply HQ $$ [HO Hat HF HT]
  isplitl [HO]; · iexists _; iexact HO
  isplitl [Hat]; · iexact Hat
  isplitl [HF] <;> iassumption

/-- Part 5: the own results are stored in slot 0, and the outputs copied to both neighbours, each copy reading half the
    share of the slot. -/
theorem part5 (κ : GSem nD τ sig → ℕ) (c : Dev nD) (v14 v25 : BitVec 32) (v149 v150 : FVec F S256x8 .f32) (v152 : FVec F S256x1024 .bf16) (v153 : Vec F S1x256x1024 .bf16)
    (ho' : k0_pay48 v152 = ov c) (hm' : k0_pay49 v149 = mv c) (hl' : k0_pay50 v150 = lv c) (Q : PUnit → sProp 𝕄) :
    iprop((records ov mv lv κ ∗ ow c (oweA c) ∗ (∃ f, oP fullShare (oRows 0 0 256) c f) ∗ (∃ f, mP fullShare (mSlot 0) c f)
        ∗ (∃ f, oP fullShare (oRows 1 0 256) (nxt c) f) ∗ rights c (nxt c) 0 4
        ∗ (∃ f, oP fullShare (oRows 2 0 256) (prv c) f) ∗ rights c (prv c) 1 5)
      ∗ ((ow c (oweMA c) ∗ cred (tallyAt (dCell c 0) () (amt 4)) ∗ cred (tallyAt (dCell c 1) () (amt 5)) ∗ mP fullShare (mSlot 0) c (mBuf mv lv c)) -∗ Q ⟨⟩))
      ⊢ WP c (k0_part5 (F := F) a0 h0 a1 h1 a2 h2 a3 h3 a4 h4 a5 h5 oM ho mM hm cc0_scratch2 cc0_scratch3 cc0_scratch4 cc0_scratch5 c v14 v25 v149 v150 v152 v153) Q := by
  simp only [k0_part5_eq_skeleton]
  unfold k0_part5_skel
  simp only [Prog.lift, Prog.bind_op, Prog.bind_ret, Prog.pure_eq_ret, Prog.bind_assoc]
  rw [ho', hm', hl']
  iintro ⟨⟨#HR, HO, ⟨%f, Ho⟩, ⟨%g, Hm⟩, ⟨%fn, Hn⟩, Hra, ⟨%fp, Hp⟩, Hrb⟩, HQ⟩
  iapply (wp_store 𝒱₀ (c : Thread nD τ) none Set.univ (m := oM) (r := rO0) (S := oRows 0 0 256)
    ((View.setOn_subset_set _ _).trans (sub_oM rO0 _ (subset_of_eq (set_rO 0 0 256))))) $$ Ho
  iintro Ho
  ihave Ho := (Entails.of_eq (pointsTo_congr (fun i hi => store_oBuf ov c f i hi))) $$ Ho
  iapply (wp_load_rect 𝒱₀ (c : Thread nD τ) none Set.univ (m := mM) (r := Rect.unit (s := S4x256x16) ![0, 0, 0] S1x256x8.size inb_S4x256x16_S1x256x8_0_0_0) (S := mSlot 0) (sub_mM _ _ (sub_rM8 0 0))) $$ Hm
  iintro Hm
  iapply (wp_store 𝒱₀ (c : Thread nD τ) none Set.univ (m := mM) (r := Rect.unit (s := S4x256x16) ![0, 0, 0] S1x256x8.size inb_S4x256x16_S1x256x8_0_0_0) (S := mSlot 0)
    ((View.setOn_subset_set _ _).trans (sub_mM _ _ (sub_rM8 0 0)))) $$ Hm
  iintro Hm
  iapply (wp_load_rect 𝒱₀ (c : Thread nD τ) none Set.univ (m := mM) (r := Rect.unit (s := S4x256x16) ![0, 0, 8] S1x256x8.size inb_S4x256x16_S1x256x8_0_0_8) (S := mSlot 0) (sub_mM _ _ (sub_rM8 0 8))) $$ Hm
  iintro Hm
  iapply (wp_store 𝒱₀ (c : Thread nD τ) none Set.univ (m := mM) (r := Rect.unit (s := S4x256x16) ![0, 0, 8] S1x256x8.size inb_S4x256x16_S1x256x8_0_0_8) (S := mSlot 0)
    ((View.setOn_subset_set _ _).trans (sub_mM _ _ (sub_rM8 0 8)))) $$ Hm
  iintro Hm
  ihave Hm := (Entails.of_eq (pointsTo_congr (fun i hi => store_mBuf mv lv c g i hi))) $$ Hm
  ihave Ho := ((o_halves (oRows 0 0 256) c (oBuf ov c)).1) $$ Ho
  icases Ho with ⟨HoL, HoR⟩
  iapply (wp_copy ov mv lv κ c (nxt c) _ (dev3_eq c) 0 4 (src := oS0) (dst := oS1) set_oS0 set_oS1 fullShare.left (oBuf ov c) fn (oweB c) (amt 4) rfl rfl rfl
    (BI.Entails.refl _) (lands_a ov mv lv c fn)) $$ [HoL Hn HO Hra]
  · isplitr; · iexact HR
    isplitl [HoL]; · iexact HoL
    isplitl [Hn]; · iexact Hn
    isplitl [HO] <;> iassumption
  iintro ⟨Hc0, HO⟩
  iapply (wp_copy ov mv lv κ c (prv c) _ (dev4_eq c) 1 5 (src := oS0) (dst := oS2) set_oS0 set_oS2 fullShare.right (oBuf ov c) fp (oweMA c) (amt 5) rfl rfl rfl
    (BI.Entails.refl _) (lands_b ov mv lv c fp)) $$ [HoR Hp HO Hrb]
  · isplitr; · iexact HR
    isplitl [HoR]; · iexact HoR
    isplitl [Hp]; · iexact Hp
    isplitl [HO] <;> iassumption
  iintro ⟨Hc1, HO⟩
  simp only [wp_ret]
  imodintro
  iapply HQ
  isplitl [HO]; · iexact HO
  isplitl [Hc0]; · iexact Hc0
  isplitl [Hc1] <;> iassumption

/-- Part 6: the statistics are copied to both neighbours, and the left neighbour's outputs waited for. -/
theorem part6 (κ : GSem nD τ sig → ℕ) (c : Dev nD) (v14 v25 : BitVec 32) (Q : PUnit → sProp 𝕄) :
    iprop((records ov mv lv κ ∗ levAts Lt lev ∗ ow c (oweMA c) ∗ mP fullShare (mSlot 0) c (mBuf mv lv c)
        ∗ (∃ f, mP fullShare (mSlot 1) (nxt c) f) ∗ rights c (nxt c) 8 11
        ∗ (∃ f, mP fullShare (mSlot 2) (prv c) f) ∗ rights c (prv c) 9 12 ∗ claimOn c 4 (amt 4))
      ∗ ((ow c (oweC c) ∗ cred (tallyAt (dCell c 8) () (amt 11)) ∗ cred (tallyAt (dCell c 9) () (amt 12))
          ∗ atPos ER (dCell c 4) (0 + 1) ∅ 0 ∗ oP fullShare (oRows 1 0 256) c (oBuf ov c)) -∗ Q ⟨⟩))
      ⊢ WP c (k0_part6 (F := F) a0 h0 a1 h1 a2 h2 a3 h3 a4 h4 a5 h5 oM ho mM hm cc0_scratch2 cc0_scratch3 cc0_scratch4 cc0_scratch5 c v14 v25) Q := by
  simp only [k0_part6_eq_skeleton]
  unfold k0_part6_skel
  simp only [Prog.lift, Prog.bind_op, Prog.bind_ret, Prog.pure_eq_ret, Prog.bind_assoc]
  iintro ⟨⟨#HR, #Hlev, HO, Hm, ⟨%fn, Hn⟩, Hra, ⟨%fp, Hp⟩, Hrb, Hcl⟩, HQ⟩
  ihave Hm := ((m_halves (mSlot 0) c (mBuf mv lv c)).1) $$ Hm
  icases Hm with ⟨HmL, HmR⟩
  iapply (wp_copy ov mv lv κ c (nxt c) _ (dev5_eq c) 8 11 (src := mS0) (dst := mS1) set_mS0 set_mS1 fullShare.left (mBuf mv lv c) fn (oweMB c) (amt 11) rfl rfl rfl
    (BI.Entails.refl _) (lands_ma ov mv lv c fn)) $$ [HmL Hn HO Hra]
  · isplitr; · iexact HR
    isplitl [HmL]; · iexact HmL
    isplitl [Hn]; · iexact Hn
    isplitl [HO] <;> iassumption
  iintro ⟨Hc0, HO⟩
  iapply (wp_copy ov mv lv κ c (prv c) _ (dev6_eq c) 9 12 (src := mS0) (dst := mS2) set_mS0 set_mS2 fullShare.right (mBuf mv lv c) fp (oweC c) (amt 12) rfl rfl rfl
    (BI.Entails.refl _) (lands_mb ov mv lv c fp)) $$ [HmR Hp HO Hrb]
  · isplitr; · iexact HR
    isplitl [HmR]; · iexact HmR
    isplitl [Hp]; · iexact Hp
    isplitl [HO] <;> iassumption
  iintro ⟨Hc1, HO⟩
  iapply (wp_await ov mv lv κ c 4 (oweC c) (tcC c) (lev_d c 4 (by decide)) (src := oS0) (dst := oS1) (amt 4) rfl rfl (oP fullShare (oRows 1 0 256) c (oBuf ov c)) rfl) $$ [HO Hcl]
  · isplitr; · iexact HR
    isplitr; · iexact Hlev
    isplitl [HO] <;> iassumption
  iintro ⟨HO, Hat, Hpay⟩
  simp only [wp_ret]
  imodintro
  iapply HQ
  isplitl [HO]; · iexact HO
  isplitl [Hc0]; · iexact Hc0
  isplitl [Hc1]; · iexact Hc1
  isplitl [Hat]; · iexact Hat
  iexact Hpay

/-- Part 7: the left neighbour's statistics are waited for, and the upper half of its outputs relayed to the right. -/
theorem part7 (κ : GSem nD τ sig → ℕ) (c : Dev nD) (v25 : BitVec 32) (Q : PUnit → sProp 𝕄) :
    iprop((records ov mv lv κ ∗ levAts Lt lev ∗ ow c (oweC c) ∗ claimOn c 11 (amt 11) ∗ oP fullShare.left (oRows 1 0 128) c (oBuf ov c)
        ∗ (∃ f, oP fullShare (oRows 3 0 128) (nxt c) f) ∗ rights c (nxt c) 2 6)
      ∗ ((ow c (oweMC c) ∗ cred (tallyAt (dCell c 2) () (amt 6)) ∗ atPos ER (dCell c 11) (0 + 1) ∅ 0 ∗ mP fullShare (mSlot 1) c (mBuf mv lv c)) -∗ Q ⟨⟩))
      ⊢ WP c (k0_part7 (F := F) a0 h0 a1 h1 a2 h2 a3 h3 a4 h4 a5 h5 oM ho mM hm cc0_scratch2 cc0_scratch3 cc0_scratch4 cc0_scratch5 c v25) Q := by
  simp only [k0_part7_eq_skeleton]
  unfold k0_part7_skel
  simp only [Prog.lift, Prog.bind_op, Prog.bind_ret, Prog.pure_eq_ret, Prog.bind_assoc]
  iintro ⟨⟨#HR, #Hlev, HO, Hcl, Ho, ⟨%fn, Hn⟩, Hra⟩, HQ⟩
  iapply (wp_await ov mv lv κ c 11 (oweC c) (tcC c) (lev_d c 11 (by decide)) (src := mS0) (dst := mS1) (amt 11) rfl rfl (mP fullShare (mSlot 1) c (mBuf mv lv c)) rfl) $$ [HO Hcl]
  · isplitr; · iexact HR
    isplitr; · iexact Hlev
    isplitl [HO] <;> iassumption
  iintro ⟨HO, Hat, Hpay⟩
  iapply (wp_copy ov mv lv κ c (nxt c) _ (dev7_eq c) 2 6 (src := oS1l) (dst := oS3l) set_oS1l set_oS3l fullShare.left (oBuf ov c) fn (oweMC c) (amt 6) rfl rfl rfl
    (BI.Entails.refl _) (lands_c ov mv lv c fn)) $$ [Ho Hn HO Hra]
  · isplitr; · iexact HR
    isplitl [Ho]; · iexact Ho
    isplitl [Hn]; · iexact Hn
    isplitl [HO] <;> iassumption
  iintro ⟨Hc, HO⟩
  simp only [wp_ret]
  imodintro
  iapply HQ
  isplitl [HO]; · iexact HO
  isplitl [Hc]; · iexact Hc
  isplitl [Hat]; · iexact Hat
  iexact Hpay

/-- Part 8: the left neighbour's statistics are relayed to the right, the right neighbour's outputs and statistics waited for, and the
    lower half of those outputs relayed to the left. -/
theorem part8 (κ : GSem nD τ sig → ℕ) (c : Dev nD) (v14 : BitVec 32) (Q : PUnit → sProp 𝕄) :
    iprop((records ov mv lv κ ∗ levAts Lt lev ∗ ow c (oweMC c) ∗ mP fullShare.left (mSlot 1) c (mBuf mv lv c)
        ∗ (∃ f, mP fullShare (mSlot 3) (nxt c) f) ∗ rights c (nxt c) 10 13 ∗ claimOn c 5 (amt 5) ∗ claimOn c 12 (amt 12)
        ∗ (∃ f, oP fullShare (oRows 3 128 128) (prv c) f) ∗ rights c (prv c) 3 7)
      ∗ ((ow c [] ∗ cred (tallyAt (dCell c 10) () (amt 13)) ∗ cred (tallyAt (dCell c 3) () (amt 7))
          ∗ atPos ER (dCell c 5) (0 + 1) ∅ 0 ∗ atPos ER (dCell c 12) (0 + 1) ∅ 0
          ∗ oP fullShare.right (oRows 2 0 256) c (oBuf ov c) ∗ oP fullShare.left (oRows 2 0 128) c (oBuf ov c)
          ∗ mP fullShare (mSlot 2) c (mBuf mv lv c)) -∗ Q ⟨⟩))
      ⊢ WP c (k0_part8 (F := F) a0 h0 a1 h1 a2 h2 a3 h3 a4 h4 a5 h5 oM ho mM hm cc0_scratch2 cc0_scratch3 cc0_scratch4 cc0_scratch5 c v14) Q := by
  simp only [k0_part8_eq_skeleton]
  unfold k0_part8_skel
  simp only [Prog.lift, Prog.bind_op, Prog.bind_ret, Prog.pure_eq_ret, Prog.bind_assoc]
  iintro ⟨⟨#HR, #Hlev, HO, Hm, ⟨%fn, Hn⟩, Hra, Hcl, Hcl2, ⟨%fp, Hp⟩, Hrb⟩, HQ⟩
  iapply (wp_copy ov mv lv κ c (nxt c) _ (dev8_eq c) 10 13 (src := mS1) (dst := mS3) set_mS1 set_mS3 fullShare.left (mBuf mv lv c) fn (oweD c) (amt 13) rfl rfl rfl
    (BI.Entails.refl _) (lands_mc ov mv lv c fn)) $$ [Hm Hn HO Hra]
  · isplitr; · iexact HR
    isplitl [Hm]; · iexact Hm
    isplitl [Hn]; · iexact Hn
    isplitl [HO] <;> iassumption
  iintro ⟨Hc, HO⟩
  iapply (wp_await ov mv lv κ c 5 (oweD c) (tcD c) (levD c 5 (by decide)) (src := oS0) (dst := oS2) (amt 5) rfl rfl (oP fullShare (oRows 2 0 256) c (oBuf ov c)) rfl) $$ [HO Hcl]
  · isplitr; · iexact HR
    isplitr; · iexact Hlev
    isplitl [HO] <;> iassumption
  iintro ⟨HO, Hat, Hpay⟩
  iapply (wp_await ov mv lv κ c 12 (oweD c) (tcD c) (levD c 12 (by decide)) (src := mS0) (dst := mS2) (amt 12) rfl rfl (mP fullShare (mSlot 2) c (mBuf mv lv c)) rfl) $$ [HO Hcl2]
  · isplitr; · iexact HR
    isplitr; · iexact Hlev
    isplitl [HO] <;> iassumption
  iintro ⟨HO, Hat2, Hpay2⟩
  ihave Hpay := ((o_halves (oRows 2 0 256) c (oBuf ov c)).1) $$ Hpay
  icases Hpay with ⟨HoL, HoR⟩
  ihave HoL := ((o_slot2 fullShare.left c (oBuf ov c)).1) $$ HoL
  icases HoL with ⟨Hlo, Hhi⟩
  iapply (wp_copy ov mv lv κ c (prv c) _ (dev9_eq c) 3 7 (src := oS2h) (dst := oS3h) set_oS2h set_oS3h fullShare.left (oBuf ov c) fp [] (amt 7) rfl rfl rfl
    (BI.Entails.refl _) (lands_d ov mv lv c fp)) $$ [Hhi Hp HO Hrb]
  · isplitr; · iexact HR
    isplitl [Hhi]; · iexact Hhi
    isplitl [Hp]; · iexact Hp
    isplitl [HO] <;> iassumption
  iintro ⟨Hc3, HO⟩
  simp only [wp_ret]
  imodintro
  iapply HQ
  isplitl [HO]; · iexact HO
  isplitl [Hc]; · iexact Hc
  isplitl [Hc3]; · iexact Hc3
  isplitl [Hat]; · iexact Hat
  isplitl [Hat2]; · iexact Hat2
  isplitl [HoR]; · iexact HoR
  isplitl [Hlo]; · iexact Hlo
  iexact Hpay2

end Cert.RingAttn
-- ==== Proof.BodyB.lean ====
/-
# The computing parts of the kernel's body, and the whole body

Parts 2 to 4 compute the device's own part from its blocks; parts 9 to 13 combine it with the three received parts; part 14
writes the result; the last parts wait for the device's own copies to have been read. The last theorem runs the body.
-/
module

public import proofs.«01_k».proof.Proof.Vals
public import proofs.«01_k».proof.Proof.BodyA

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ov : OPart F) (mv lv : MPart F)

/-- A staging buffer of device `c`, whole, holding `f`. -/
abbrev sP (c : Dev nD) (b : Ref sig .tc) (f : b.ty.Contents (Elt F)) : sProp 𝕄 := ((c : Thread nD τ).loc b) ↦{fullShare} f
/-- Two zero offsets are the zero offset. -/
theorem zero2 : (![0, 0] : Fin 2 → Nat) = fun _ => 0 := by funext a; fin_cases a <;> rfl
/-- Three zero offsets are the zero offset. -/
theorem zero3 : (![0, 0, 0] : Fin 3 → Nat) = fun _ => 0 := by funext a; fin_cases a <;> rfl

/-- The parts device `c` receives. -/
def got (c : Dev nD) : Got F := ⟨mv (src 1 c), lv (src 1 c), ov (src 1 c), mv (src 2 c), lv (src 2 c), ov (src 2 c), mv (src 3 c), lv (src 3 c), ov (src 3 c)⟩

variable {h0 : (Memref.whole cc0_stg0_0 : Memref sig .tc .vmem S1x256x1024 .bf16).IsWhole} {h1 : (Memref.whole cc0_stg1_0 : Memref sig .tc .vmem S1024x1024 .bf16).IsWhole}
  {h2 : (Memref.whole cc0_stg2_0 : Memref sig .tc .vmem S1024x1024 .bf16).IsWhole} {h3 : (Memref.whole cc0_stg3_0 : Memref sig .tc .vmem S4096x256 .bf16).IsWhole}
  {h4 : (Memref.whole cc0_stg4_0 : Memref sig .tc .vmem S4096x256 .bf16).IsWhole} {h5 : (Memref.whole cc0_stg5_0 : Memref sig .tc .vmem S1x256x1024 .f32).IsWhole}
  {ho : oM.IsWhole} {hm : mM.IsWhole}

/-! ## Loads of the staging buffers -/

/-- Loading the staged rows gives what the buffer holds. -/
theorem load_stg0 (c : Dev nD) (f : S1x256x1024.Idx → Elt F .bf16) (inb)
    {hl : (Memref.whole cc0_stg0_0 : Memref sig .tc .vmem S1x256x1024 .bf16).view.LoadsAt (Rect.unit (s := S1x256x1024) ![0, 0, 0] S1x256x1024.size inb).toLoadRect}
    {α : Type} {Q : α → sProp 𝕄} {k : (S1x256x1024.Idx → Elt F .bf16) → Prog (TpuEff nD τ sig (Elt F) Λ₀ .tc) α} :
    (sP c cc0_stg0_0 f : sProp 𝕄) ⊢ iprop((sP c cc0_stg0_0 f -∗ WP c (k f) Q)
      -∗ WP c (.op (.load (Memref.whole cc0_stg0_0) (Rect.unit (s := S1x256x1024) ![0, 0, 0] S1x256x1024.size inb).toLoadRect hl) k) Q) :=
  wp_reads c (m := (Memref.whole cc0_stg0_0 : Memref sig .tc .vmem S1x256x1024 .bf16)) (r := Rect.unit (s := S1x256x1024) ![0, 0, 0] S1x256x1024.size inb) (f := f) (Memref.readAt_unit_zero (Elt F) cc0_stg0_0 zero3 inb f) (Finset.subset_univ _)
/-- Loading the staged query projection gives what the buffer holds. -/
theorem load_stg1 (c : Dev nD) (f : S1024x1024.Idx → Elt F .bf16) (inb)
    {hl : (Memref.whole cc0_stg1_0 : Memref sig .tc .vmem S1024x1024 .bf16).view.LoadsAt (Rect.unit (s := S1024x1024) ![0, 0] S1024x1024.size inb).toLoadRect}
    {α : Type} {Q : α → sProp 𝕄} {k : (S1024x1024.Idx → Elt F .bf16) → Prog (TpuEff nD τ sig (Elt F) Λ₀ .tc) α} :
    (sP c cc0_stg1_0 f : sProp 𝕄) ⊢ iprop((sP c cc0_stg1_0 f -∗ WP c (k f) Q)
      -∗ WP c (.op (.load (Memref.whole cc0_stg1_0) (Rect.unit (s := S1024x1024) ![0, 0] S1024x1024.size inb).toLoadRect hl) k) Q) :=
  wp_reads c (m := (Memref.whole cc0_stg1_0 : Memref sig .tc .vmem S1024x1024 .bf16)) (r := Rect.unit (s := S1024x1024) ![0, 0] S1024x1024.size inb) (f := f) (Memref.readAt_unit_zero (Elt F) cc0_stg1_0 zero2 inb f) (Finset.subset_univ _)
/-- Loading the staged output projection gives what the buffer holds. -/
theorem load_stg2 (c : Dev nD) (f : S1024x1024.Idx → Elt F .bf16) (inb)
    {hl : (Memref.whole cc0_stg2_0 : Memref sig .tc .vmem S1024x1024 .bf16).view.LoadsAt (Rect.unit (s := S1024x1024) ![0, 0] S1024x1024.size inb).toLoadRect}
    {α : Type} {Q : α → sProp 𝕄} {k : (S1024x1024.Idx → Elt F .bf16) → Prog (TpuEff nD τ sig (Elt F) Λ₀ .tc) α} :
    (sP c cc0_stg2_0 f : sProp 𝕄) ⊢ iprop((sP c cc0_stg2_0 f -∗ WP c (k f) Q)
      -∗ WP c (.op (.load (Memref.whole cc0_stg2_0) (Rect.unit (s := S1024x1024) ![0, 0] S1024x1024.size inb).toLoadRect hl) k) Q) :=
  wp_reads c (m := (Memref.whole cc0_stg2_0 : Memref sig .tc .vmem S1024x1024 .bf16)) (r := Rect.unit (s := S1024x1024) ![0, 0] S1024x1024.size inb) (f := f) (Memref.readAt_unit_zero (Elt F) cc0_stg2_0 zero2 inb f) (Finset.subset_univ _)
/-- Loading the staged result gives what the buffer holds. -/
theorem load_stg5 (c : Dev nD) (f : S1x256x1024.Idx → Elt F .f32) (inb)
    {hl : (Memref.whole cc0_stg5_0 : Memref sig .tc .vmem S1x256x1024 .f32).view.LoadsAt (Rect.unit (s := S1x256x1024) ![0, 0, 0] S1x256x1024.size inb).toLoadRect}
    {α : Type} {Q : α → sProp 𝕄} {k : (S1x256x1024.Idx → Elt F .f32) → Prog (TpuEff nD τ sig (Elt F) Λ₀ .tc) α} :
    (sP c cc0_stg5_0 f : sProp 𝕄) ⊢ iprop((sP c cc0_stg5_0 f -∗ WP c (k f) Q)
      -∗ WP c (.op (.load (Memref.whole cc0_stg5_0) (Rect.unit (s := S1x256x1024) ![0, 0, 0] S1x256x1024.size inb).toLoadRect hl) k) Q) :=
  wp_reads c (m := (Memref.whole cc0_stg5_0 : Memref sig .tc .vmem S1x256x1024 .f32)) (r := Rect.unit (s := S1x256x1024) ![0, 0, 0] S1x256x1024.size inb) (f := f) (Memref.readAt_unit_zero (Elt F) cc0_stg5_0 zero3 inb f) (Finset.subset_univ _)
/-- Loading the left half of the staged keys gives those columns. -/
theorem load_stg3_0 (c : Dev nD) (f : S4096x256.Idx → Elt F .bf16) (inb)
    {hl : (Memref.whole cc0_stg3_0 : Memref sig .tc .vmem S4096x256 .bf16).view.LoadsAt (Rect.unit (s := S4096x256) ![0, 0] S4096x128.size inb).toLoadRect}
    {α : Type} {Q : α → sProp 𝕄} {k : (S4096x128.Idx → Elt F .bf16) → Prog (TpuEff nD τ sig (Elt F) Λ₀ .tc) α} :
    (sP c cc0_stg3_0 f : sProp 𝕄) ⊢ iprop((sP c cc0_stg3_0 f -∗ WP c (k (kcol0 f)) Q)
      -∗ WP c (.op (.load (Memref.whole cc0_stg3_0) (Rect.unit (s := S4096x256) ![0, 0] S4096x128.size inb).toLoadRect hl) k) Q) :=
  wp_reads c (m := (Memref.whole cc0_stg3_0 : Memref sig .tc .vmem S4096x256 .bf16)) (r := Rect.unit (s := S4096x256) ![0, 0] S4096x128.size inb) (f := f) rfl (Finset.subset_univ _)
/-- Loading the right half of the staged keys gives those columns. -/
theorem load_stg3_1 (c : Dev nD) (f : S4096x256.Idx → Elt F .bf16) (inb)
    {hl : (Memref.whole cc0_stg3_0 : Memref sig .tc .vmem S4096x256 .bf16).view.LoadsAt (Rect.unit (s := S4096x256) ![0, 128] S4096x128.size inb).toLoadRect}
    {α : Type} {Q : α → sProp 𝕄} {k : (S4096x128.Idx → Elt F .bf16) → Prog (TpuEff nD τ sig (Elt F) Λ₀ .tc) α} :
    (sP c cc0_stg3_0 f : sProp 𝕄) ⊢ iprop((sP c cc0_stg3_0 f -∗ WP c (k (kcol1 f)) Q)
      -∗ WP c (.op (.load (Memref.whole cc0_stg3_0) (Rect.unit (s := S4096x256) ![0, 128] S4096x128.size inb).toLoadRect hl) k) Q) :=
  wp_reads c (m := (Memref.whole cc0_stg3_0 : Memref sig .tc .vmem S4096x256 .bf16)) (r := Rect.unit (s := S4096x256) ![0, 128] S4096x128.size inb) (f := f) rfl (Finset.subset_univ _)
/-- Loading the left half of the staged values gives those columns. -/
theorem load_stg4_0 (c : Dev nD) (f : S4096x256.Idx → Elt F .bf16) (inb)
    {hl : (Memref.whole cc0_stg4_0 : Memref sig .tc .vmem S4096x256 .bf16).view.LoadsAt (Rect.unit (s := S4096x256) ![0, 0] S4096x128.size inb).toLoadRect}
    {α : Type} {Q : α → sProp 𝕄} {k : (S4096x128.Idx → Elt F .bf16) → Prog (TpuEff nD τ sig (Elt F) Λ₀ .tc) α} :
    (sP c cc0_stg4_0 f : sProp 𝕄) ⊢ iprop((sP c cc0_stg4_0 f -∗ WP c (k (kcol0 f)) Q)
      -∗ WP c (.op (.load (Memref.whole cc0_stg4_0) (Rect.unit (s := S4096x256) ![0, 0] S4096x128.size inb).toLoadRect hl) k) Q) :=
  wp_reads c (m := (Memref.whole cc0_stg4_0 : Memref sig .tc .vmem S4096x256 .bf16)) (r := Rect.unit (s := S4096x256) ![0, 0] S4096x128.size inb) (f := f) rfl (Finset.subset_univ _)
/-- Loading the right half of the staged values gives those columns. -/
theorem load_stg4_1 (c : Dev nD) (f : S4096x256.Idx → Elt F .bf16) (inb)
    {hl : (Memref.whole cc0_stg4_0 : Memref sig .tc .vmem S4096x256 .bf16).view.LoadsAt (Rect.unit (s := S4096x256) ![0, 128] S4096x128.size inb).toLoadRect}
    {α : Type} {Q : α → sProp 𝕄} {k : (S4096x128.Idx → Elt F .bf16) → Prog (TpuEff nD τ sig (Elt F) Λ₀ .tc) α} :
    (sP c cc0_stg4_0 f : sProp 𝕄) ⊢ iprop((sP c cc0_stg4_0 f -∗ WP c (k (kcol1 f)) Q)
      -∗ WP c (.op (.load (Memref.whole cc0_stg4_0) (Rect.unit (s := S4096x256) ![0, 128] S4096x128.size inb).toLoadRect hl) k) Q) :=
  wp_reads c (m := (Memref.whole cc0_stg4_0 : Memref sig .tc .vmem S4096x256 .bf16)) (r := Rect.unit (s := S4096x256) ![0, 128] S4096x128.size inb) (f := f) rfl (Finset.subset_univ _)

/-! ## The parts -/

/-- Part 2: the query and the first three heads. -/
theorem part2 (κ : GSem nD τ sig → ℕ) (c : Dev nD) (I : Ins F)  (r) (hr : (⟨k0_pay1 I.x I.wq, k0_pay2 (kcol0 I.k), k0_pay3 (kcol0 I.v), k0_pay5 I.x I.wq (kcol0 I.k), k0_pay7 I.x I.wq (kcol0 I.k), k0_pay8 I.x I.wq (kcol0 I.k) (kcol0 I.v), k0_pay10 I.x I.wq (kcol0 I.k), k0_pay12 I.x I.wq (kcol0 I.k), k0_pay13 I.x I.wq (kcol0 I.k) (kcol0 I.v), k0_pay14 I.x I.wq (kcol0 I.k), (Scalar.ofBits .f32 0x3DB504F3#32)⟩ : (Σ' (v36 : FVec F S256x1024 .bf16) (v38 : FVec F S4096x128 .bf16) (v40 : FVec F S4096x128 .bf16) (v46 : FVec F S256x1 .f32) (v51 : FVec F S256x1 .f32) (v53 : FVec F S256x128 .f32) (v59 : FVec F S256x1 .f32) (v64 : FVec F S256x1 .f32) (v66 : FVec F S256x128 .f32) (v68 : FVec F S256x4096 .f32), F .f32)) = r) (Q : _ → sProp 𝕄) :
    iprop((records ov mv lv κ ∗ levAts Lt lev ∗ sP c cc0_stg0_0 I.x ∗ sP c cc0_stg1_0 I.wq ∗ sP c cc0_stg3_0 I.k ∗ sP c cc0_stg4_0 I.v) ∗ ((sP c cc0_stg0_0 I.x ∗ sP c cc0_stg1_0 I.wq ∗ sP c cc0_stg3_0 I.k ∗ sP c cc0_stg4_0 I.v) -∗ Q r))
      ⊢ WP c (k0_part2 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 oM ho mM hm cc0_scratch2 cc0_scratch3 cc0_scratch4 cc0_scratch5 ) Q := by
  simp only [k0_part2_eq_skeleton]
  unfold k0_part2_skel
  simp only [Prog.lift, Prog.bind_op, Prog.bind_ret, Prog.pure_eq_ret, Prog.bind_assoc]
  subst hr
  iintro ⟨⟨#HR, #Hlev, Hx, Hq, Hk, Hv⟩, HQ⟩
  iapply (load_stg0 c _ _) $$ Hx
  iintro Hx
  iapply (load_stg1 c _ _) $$ Hq
  iintro Hq
  iapply (load_stg3_0 c _ _) $$ Hk
  iintro Hk
  iapply (load_stg4_0 c _ _) $$ Hv
  iintro Hv
  simp only [wp_ret]
  imodintro
  iapply HQ
  isplitl [Hx]; · iexact Hx
  isplitl [Hq]; · iexact Hq
  isplitl [Hk]; · iexact Hk
  iexact Hv

/-- Part 3: the next two heads and the start of the sixth. -/
theorem part3 (κ : GSem nD τ sig → ℕ) (c : Dev nD) (I : Ins F) (v36 : FVec F S256x1024 .bf16) (v38 : FVec F S4096x128 .bf16) (v40 : FVec F S4096x128 .bf16) (v68 : FVec F S256x4096 .f32) (cst_39 : F .f32) (r) (hr : (⟨k0_pay16 v68 cst_39, k0_pay18 v68 cst_39, k0_pay19 v40 v68 cst_39, k0_pay21 v36 v38, k0_pay23 v36 v38, k0_pay24 v36 v38 v40, k0_pay25 (kcol1 I.k), k0_pay26 (kcol1 I.v), k0_pay28 v36 (kcol1 I.k), k0_pay30 v36 (kcol1 I.k), k0_pay31 v36 (kcol1 I.k) (kcol1 I.v), k0_pay32 v36, (constant S256x4096 .f32 0x00000000#32)⟩ : (Σ' (v72 : FVec F S256x1 .f32) (v77 : FVec F S256x1 .f32) (v79 : FVec F S256x128 .f32) (v85 : FVec F S256x1 .f32) (v90 : FVec F S256x1 .f32) (v92 : FVec F S256x128 .f32) (v94 : FVec F S4096x128 .bf16) (v96 : FVec F S4096x128 .bf16) (v102 : FVec F S256x1 .f32) (v107 : FVec F S256x1 .f32) (v109 : FVec F S256x128 .f32) (v110 : FVec F S256x128 .bf16), FVec F S256x4096 .f32)) = r) (Q : _ → sProp 𝕄) :
    iprop((records ov mv lv κ ∗ levAts Lt lev ∗ sP c cc0_stg3_0 I.k ∗ sP c cc0_stg4_0 I.v) ∗ ((sP c cc0_stg3_0 I.k ∗ sP c cc0_stg4_0 I.v) -∗ Q r))
      ⊢ WP c (k0_part3 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 oM ho mM hm cc0_scratch2 cc0_scratch3 cc0_scratch4 cc0_scratch5 v36 v38 v40 v68 cst_39) Q := by
  simp only [k0_part3_eq_skeleton]
  unfold k0_part3_skel
  simp only [Prog.lift, Prog.bind_op, Prog.bind_ret, Prog.pure_eq_ret, Prog.bind_assoc]
  subst hr
  iintro ⟨⟨#HR, #Hlev, Hk, Hv⟩, HQ⟩
  iapply (load_stg3_1 c _ _) $$ Hk
  iintro Hk
  iapply (load_stg4_1 c _ _) $$ Hv
  iintro Hv
  simp only [wp_ret]
  imodintro
  iapply HQ
  isplitl [Hk]; · iexact Hk
  iexact Hv

/-- Part 4: the last three heads; the own maxima, sums and outputs are together. -/
theorem part4 (κ : GSem nD τ sig → ℕ) (c : Dev nD) (f : OBuf F) (v0 : Vec F S1x256x1024 .bf16) (hf : (oM.access rO0).read (Elt F) f = v0) (v36 : FVec F S256x1024 .bf16) (v46 : FVec F S256x1 .f32) (v51 : FVec F S256x1 .f32) (v53 : FVec F S256x128 .f32) (v59 : FVec F S256x1 .f32) (v64 : FVec F S256x1 .f32) (v66 : FVec F S256x128 .f32) (v72 : FVec F S256x1 .f32) (v77 : FVec F S256x1 .f32) (v79 : FVec F S256x128 .f32) (v85 : FVec F S256x1 .f32) (v90 : FVec F S256x1 .f32) (v92 : FVec F S256x128 .f32) (v94 : FVec F S4096x128 .bf16) (v96 : FVec F S4096x128 .bf16) (v102 : FVec F S256x1 .f32) (v107 : FVec F S256x1 .f32) (v109 : FVec F S256x128 .f32) (v110 : FVec F S256x128 .bf16) (cst_56 : FVec F S256x4096 .f32) (r) (hr : (⟨k0_pay36 v94 v96 v110 cst_56, k0_pay40 v36 v94 v96, k0_pay44 v36 v94 v96, k0_pay45 v36 v46 v59 v72 v85 v94 v102 v110 cst_56, k0_pay46 v36 v51 v64 v77 v90 v94 v107 v110 cst_56, k0_pay47 v36 v53 v66 v79 v92 v94 v96 v109 v110 cst_56, v0⟩ : (Σ' (v122 : FVec F S256x128 .f32) (v135 : FVec F S256x128 .f32) (v148 : FVec F S256x128 .f32) (v149 : FVec F S256x8 .f32) (v150 : FVec F S256x8 .f32) (v152 : FVec F S256x1024 .bf16), Vec F S1x256x1024 .bf16)) = r) (Q : _ → sProp 𝕄) :
    iprop((records ov mv lv κ ∗ levAts Lt lev ∗ oP fullShare (oRows 0 0 256) c f) ∗ ((oP fullShare (oRows 0 0 256) c f) -∗ Q r))
      ⊢ WP c (k0_part4 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 oM ho mM hm cc0_scratch2 cc0_scratch3 cc0_scratch4 cc0_scratch5 v36 v46 v51 v53 v59 v64 v66 v72 v77 v79 v85 v90 v92 v94 v96 v102 v107 v109 v110 cst_56) Q := by
  simp only [k0_part4_eq_skeleton]
  unfold k0_part4_skel
  simp only [Prog.lift, Prog.bind_op, Prog.bind_ret, Prog.pure_eq_ret, Prog.bind_assoc]
  subst hr
  iintro ⟨⟨#HR, #Hlev, Ho⟩, HQ⟩
  iapply (wp_reads c (m := oM) (v := v0) hf (sub_oM rO0 _ (subset_of_eq (set_rO 0 0 256)))) $$ Ho
  iintro Ho
  simp only [wp_ret]
  imodintro
  iapply HQ
  iexact Ho

/-- Part 9: the left neighbour's part is combined with the own one. -/
theorem part9 (κ : GSem nD τ sig → ℕ) (c : Dev nD) (I : Ins F) (v53 : FVec F S256x128 .f32) (v66 : FVec F S256x128 .f32) (v79 : FVec F S256x128 .f32) (v92 : FVec F S256x128 .f32) (v109 : FVec F S256x128 .f32) (v149 : FVec F S256x8 .f32) (v150 : FVec F S256x8 .f32) (r) (hr : (⟨k0_pay52 v149 (mv (src 1 c)), k0_pay53 v149 (mv (src 1 c)), k0_pay54 v149 (mv (src 1 c)), k0_pay55 v149 v150 (mv (src 1 c)) (lv (src 1 c)), k0_pay56 (ov (src 1 c)), k0_pay57 v53 v149 (mv (src 1 c)) (ov (src 1 c)), k0_pay58 v66 v149 (mv (src 1 c)) (ov (src 1 c)), k0_pay59 v79 v149 (mv (src 1 c)) (ov (src 1 c)), k0_pay60 v92 v149 (mv (src 1 c)) (ov (src 1 c)), k0_pay61 v109 v149 (mv (src 1 c)), k0_pay62 (ov (src 1 c))⟩ : (Σ' (v268 : FVec F S256x8 .f32) (v270 : FVec F S256x8 .f32) (v272 : FVec F S256x8 .f32) (v275 : FVec F S256x8 .f32) (v278 : FVec F S256x1024 .f32) (v286 : FVec F S256x128 .f32) (v294 : FVec F S256x128 .f32) (v302 : FVec F S256x128 .f32) (v310 : FVec F S256x128 .f32) (v313 : FVec F S256x128 .f32), FVec F S256x128 .f32)) = r) (Q : _ → sProp 𝕄) :
    iprop((records ov mv lv κ ∗ levAts Lt lev ∗ mP fullShare.right (mSlot 1) c (mBuf mv lv c) ∗ oP fullShare.right (oRows 1 0 256) c (oBuf ov c)) ∗ ((mP fullShare.right (mSlot 1) c (mBuf mv lv c) ∗ oP fullShare.right (oRows 1 0 256) c (oBuf ov c)) -∗ Q r))
      ⊢ WP c (k0_part9 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 oM ho mM hm cc0_scratch2 cc0_scratch3 cc0_scratch4 cc0_scratch5 v53 v66 v79 v92 v109 v149 v150) Q := by
  simp only [k0_part9_eq_skeleton]
  unfold k0_part9_skel
  simp only [Prog.lift, Prog.bind_op, Prog.bind_ret, Prog.pure_eq_ret, Prog.bind_assoc]
  subst hr
  iintro ⟨⟨#HR, #Hlev, Hm, Ho⟩, HQ⟩
  iapply (wp_max mv lv c 1 _ fullShare.right) $$ Hm
  iintro Hm
  iapply (wp_sum mv lv c 1 _ fullShare.right) $$ Hm
  iintro Hm
  iapply (wp_slot ov c 1 _ fullShare.right) $$ Ho
  iintro Ho
  simp only [wp_ret]
  imodintro
  iapply HQ
  isplitl [Hm]; · iexact Hm
  iexact Ho

/-- Part 10: the first combining step is finished and the right neighbour's part begun. -/
theorem part10 (κ : GSem nD τ sig → ℕ) (c : Dev nD) (I : Ins F) (v122 : FVec F S256x128 .f32) (v135 : FVec F S256x128 .f32) (v148 : FVec F S256x128 .f32) (v268 : FVec F S256x8 .f32) (v270 : FVec F S256x8 .f32) (v272 : FVec F S256x8 .f32) (v275 : FVec F S256x8 .f32) (v278 : FVec F S256x1024 .f32) (v286 : FVec F S256x128 .f32) (v313 : FVec F S256x128 .f32) (v314 : FVec F S256x128 .f32) (r) (hr : (⟨k0_pay63 v272 v313 v314, k0_pay64 v122 v270 v272 v278, k0_pay65 v135 v270 v272 v278, k0_pay66 v148 v270 v272 v278, k0_pay68 v268 (mv (src 2 c)), k0_pay69 v268 (mv (src 2 c)), k0_pay70 v268 (mv (src 2 c)), k0_pay71 v268 v275 (mv (src 2 c)) (lv (src 2 c)), k0_pay72 (ov (src 2 c)), k0_pay73 v268 v286 (mv (src 2 c)) (ov (src 2 c))⟩ : (Σ' (v318 : FVec F S256x128 .f32) (v326 : FVec F S256x128 .f32) (v334 : FVec F S256x128 .f32) (v342 : FVec F S256x128 .f32) (v347 : FVec F S256x8 .f32) (v349 : FVec F S256x8 .f32) (v351 : FVec F S256x8 .f32) (v354 : FVec F S256x8 .f32) (v357 : FVec F S256x1024 .f32), FVec F S256x128 .f32)) = r) (Q : _ → sProp 𝕄) :
    iprop((records ov mv lv κ ∗ levAts Lt lev ∗ mP fullShare (mSlot 2) c (mBuf mv lv c) ∗ oP fullShare.right (oRows 2 0 256) c (oBuf ov c)) ∗ ((mP fullShare (mSlot 2) c (mBuf mv lv c) ∗ oP fullShare.right (oRows 2 0 256) c (oBuf ov c)) -∗ Q r))
      ⊢ WP c (k0_part10 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 oM ho mM hm cc0_scratch2 cc0_scratch3 cc0_scratch4 cc0_scratch5 v122 v135 v148 v268 v270 v272 v275 v278 v286 v313 v314) Q := by
  simp only [k0_part10_eq_skeleton]
  unfold k0_part10_skel
  simp only [Prog.lift, Prog.bind_op, Prog.bind_ret, Prog.pure_eq_ret, Prog.bind_assoc]
  subst hr
  iintro ⟨⟨#HR, #Hlev, Hm, Ho⟩, HQ⟩
  iapply (wp_max mv lv c 2 _ fullShare) $$ Hm
  iintro Hm
  iapply (wp_sum mv lv c 2 _ fullShare) $$ Hm
  iintro Hm
  iapply (wp_slot ov c 2 _ fullShare.right) $$ Ho
  iintro Ho
  simp only [wp_ret]
  imodintro
  iapply HQ
  isplitl [Hm]; · iexact Hm
  iexact Ho

/-- Part 11: the second combining step is finished. -/
theorem part11 (κ : GSem nD τ sig → ℕ) (c : Dev nD) (I : Ins F) (v294 : FVec F S256x128 .f32) (v302 : FVec F S256x128 .f32) (v310 : FVec F S256x128 .f32) (v318 : FVec F S256x128 .f32) (v326 : FVec F S256x128 .f32) (v334 : FVec F S256x128 .f32) (v342 : FVec F S256x128 .f32) (v349 : FVec F S256x8 .f32) (v351 : FVec F S256x8 .f32) (v357 : FVec F S256x1024 .f32) (r) (hr : (⟨k0_pay74 v294 v349 v351 v357, k0_pay75 v302 v349 v351 v357, k0_pay76 v310 v349 v351 v357, k0_pay77 v318 v349 v351 v357, k0_pay78 v326 v349 v351 v357, k0_pay79 v334 v349 v351 v357, k0_pay80 v342 v349 v351 v357⟩ : (Σ' (v373 : FVec F S256x128 .f32) (v381 : FVec F S256x128 .f32) (v389 : FVec F S256x128 .f32) (v397 : FVec F S256x128 .f32) (v405 : FVec F S256x128 .f32) (v413 : FVec F S256x128 .f32), FVec F S256x128 .f32)) = r) (Q : _ → sProp 𝕄) :
    iprop((records ov mv lv κ ∗ levAts Lt lev ∗ ow c []) ∗ ((ow c []) -∗ Q r))
      ⊢ WP c (k0_part11 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 oM ho mM hm cc0_scratch2 cc0_scratch3 cc0_scratch4 cc0_scratch5 v294 v302 v310 v318 v326 v334 v342 v349 v351 v357) Q := by
  simp only [k0_part11_eq_skeleton]
  unfold k0_part11_skel
  simp only [Prog.lift, Prog.bind_op, Prog.bind_ret, Prog.pure_eq_ret, Prog.bind_assoc]
  subst hr
  iintro ⟨⟨#HR, #Hlev, HO⟩, HQ⟩
  simp only [wp_ret]
  imodintro
  iapply HQ
  iexact HO

/-- Part 12: the opposite device's part is waited for, both halves and its statistics, and its maxima loaded. -/
theorem part12 (κ : GSem nD τ sig → ℕ) (c : Dev nD) (I : Ins F) (v14 : BitVec 32) (v25 : BitVec 32) (r) (hr : ((k0_pay81 (mv (src 3 c))) : (FVec F S256x8 .f32)) = r) (Q : _ → sProp 𝕄) :
    iprop((records ov mv lv κ ∗ levAts Lt lev ∗ ow c [] ∗ claimOn c 6 (amt 6) ∗ claimOn c 7 (amt 7) ∗ claimOn c 13 (amt 13)) ∗ ((ow c [] ∗ atPos ER (dCell c 6) (0 + 1) ∅ 0 ∗ atPos ER (dCell c 7) (0 + 1) ∅ 0 ∗ atPos ER (dCell c 13) (0 + 1) ∅ 0 ∗ oP fullShare (oRows 3 0 256) c (oBuf ov c) ∗ mP fullShare (mSlot 3) c (mBuf mv lv c)) -∗ Q r))
      ⊢ WP c (k0_part12 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 oM ho mM hm cc0_scratch2 cc0_scratch3 cc0_scratch4 cc0_scratch5 v14 v25) Q := by
  simp only [k0_part12_eq_skeleton]
  unfold k0_part12_skel
  simp only [Prog.lift, Prog.bind_op, Prog.bind_ret, Prog.pure_eq_ret, Prog.bind_assoc]
  subst hr
  iintro ⟨⟨#HR, #Hlev, HO, Hc6, Hc7, Hc13⟩, HQ⟩
  iapply (wp_await ov mv lv κ c 6 [] (fun _ h => nomatch h) (fun _ h => nomatch h) (src := oS1l) (dst := oS3l) (amt 6) rfl rfl (oP fullShare (oRows 3 0 128) c (oBuf ov c)) rfl) $$ [HO Hc6]
  · isplitr; · iexact HR
    isplitr; · iexact Hlev
    isplitl [HO]; · iexact HO
    iexact Hc6
  iintro ⟨HO, Hat6, Hlo⟩
  iapply (wp_await ov mv lv κ c 7 [] (fun _ h => nomatch h) (fun _ h => nomatch h) (src := oS2h) (dst := oS3h) (amt 7) rfl rfl (oP fullShare (oRows 3 128 128) c (oBuf ov c)) rfl) $$ [HO Hc7]
  · isplitr; · iexact HR
    isplitr; · iexact Hlev
    isplitl [HO]; · iexact HO
    iexact Hc7
  iintro ⟨HO, Hat7, Hhi⟩
  iapply (wp_await ov mv lv κ c 13 [] (fun _ h => nomatch h) (fun _ h => nomatch h) (src := mS1) (dst := mS3) (amt 13) rfl rfl (mP fullShare (mSlot 3) c (mBuf mv lv c)) rfl) $$ [HO Hc13]
  · isplitr; · iexact HR
    isplitr; · iexact Hlev
    isplitl [HO]; · iexact HO
    iexact Hc13
  iintro ⟨HO, Hat13, Hm⟩
  ihave Ho := ((o_slot3 fullShare c (oBuf ov c)).2) $$ [Hlo Hhi]
  · isplitl [Hlo]; · iexact Hlo
    iexact Hhi
  iapply (wp_max mv lv c 3 _ fullShare) $$ Hm
  iintro Hm
  simp only [wp_ret]
  imodintro
  iapply HQ
  isplitl [HO]; · iexact HO
  isplitl [Hat6]; · iexact Hat6
  isplitl [Hat7]; · iexact Hat7
  isplitl [Hat13]; · iexact Hat13
  isplitl [Ho]; · iexact Ho
  iexact Hm

/-- Part 13: the opposite device's part is combined. -/
theorem part13 (κ : GSem nD τ sig → ℕ) (c : Dev nD) (I : Ins F) (v347 : FVec F S256x8 .f32) (v354 : FVec F S256x8 .f32) (v365 : FVec F S256x128 .f32) (v373 : FVec F S256x128 .f32) (v381 : FVec F S256x128 .f32) (v389 : FVec F S256x128 .f32) (v397 : FVec F S256x128 .f32) (v405 : FVec F S256x128 .f32) (v447 : FVec F S256x8 .f32) (r) (hr : (⟨k0_pay83 v347 v447, k0_pay84 v347 v447, k0_pay85 v347 v354 v447 (lv (src 3 c)), k0_pay86 (ov (src 3 c)), k0_pay87 v347 v365 v447 (ov (src 3 c)), k0_pay88 v347 v373 v447 (ov (src 3 c)), k0_pay89 v347 v381 v447 (ov (src 3 c)), k0_pay90 v347 v389 v447 (ov (src 3 c)), k0_pay91 v347 v397 v447 (ov (src 3 c)), k0_pay92 v347 v405 v447⟩ : (Σ' (v452 : FVec F S256x8 .f32) (v454 : FVec F S256x8 .f32) (v457 : FVec F S256x8 .f32) (v460 : FVec F S256x1024 .f32) (v468 : FVec F S256x128 .f32) (v476 : FVec F S256x128 .f32) (v484 : FVec F S256x128 .f32) (v492 : FVec F S256x128 .f32) (v500 : FVec F S256x128 .f32), FVec F S256x128 .f32)) = r) (Q : _ → sProp 𝕄) :
    iprop((records ov mv lv κ ∗ levAts Lt lev ∗ mP fullShare (mSlot 3) c (mBuf mv lv c) ∗ oP fullShare (oRows 3 0 256) c (oBuf ov c)) ∗ ((mP fullShare (mSlot 3) c (mBuf mv lv c) ∗ oP fullShare (oRows 3 0 256) c (oBuf ov c)) -∗ Q r))
      ⊢ WP c (k0_part13 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 oM ho mM hm cc0_scratch2 cc0_scratch3 cc0_scratch4 cc0_scratch5 v347 v354 v365 v373 v381 v389 v397 v405 v447) Q := by
  simp only [k0_part13_eq_skeleton]
  unfold k0_part13_skel
  simp only [Prog.lift, Prog.bind_op, Prog.bind_ret, Prog.pure_eq_ret, Prog.bind_assoc]
  subst hr
  iintro ⟨⟨#HR, #Hlev, Hm, Ho⟩, HQ⟩
  iapply (wp_sum mv lv c 3 _ fullShare) $$ Hm
  iintro Hm
  iapply (wp_slot ov c 3 _ fullShare) $$ Ho
  iintro Ho
  simp only [wp_ret]
  imodintro
  iapply HQ
  isplitl [Hm]; · iexact Hm
  iexact Ho

/-- Part 14: the result is divided, projected and written. -/
theorem part14 (c : Dev nD) (I : Ins F) (v413 : FVec F S256x128 .f32) (v421 : FVec F S256x128 .f32) (v452 : FVec F S256x8 .f32) (v454 : FVec F S256x8 .f32) (v457 : FVec F S256x8 .f32) (v460 : FVec F S256x1024 .f32) (v468 : FVec F S256x128 .f32) (v476 : FVec F S256x128 .f32) (v484 : FVec F S256x128 .f32) (v492 : FVec F S256x128 .f32) (v500 : FVec F S256x128 .f32) (v503 : FVec F S256x128 .f32) (g : S1x256x1024.Idx → Elt F .f32) (r : S1x256x1024.Idx → Elt F .f32) (hr : k0_pay93 v413 v421 v452 v454 v457 v460 v468 v476 v484 v492 v500 v503 I.wo = r) (Q : PUnit → sProp 𝕄) :
    iprop((sP c cc0_stg2_0 I.wo ∗ sP c cc0_stg5_0 g) ∗ ((sP c cc0_stg2_0 I.wo ∗ sP c cc0_stg5_0 r) -∗ Q ⟨⟩))
      ⊢ WP c (k0_part14 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 oM ho mM hm cc0_scratch2 cc0_scratch3 cc0_scratch4 cc0_scratch5 v413 v421 v452 v454 v457 v460 v468 v476 v484 v492 v500 v503) Q := by
  simp only [k0_part14_eq_skeleton]
  unfold k0_part14_skel
  simp only [Prog.lift, Prog.bind_op, Prog.bind_ret, Prog.pure_eq_ret, Prog.bind_assoc]
  subst hr
  iintro ⟨⟨Hw, Hg⟩, HQ⟩
  iapply (load_stg2 c _ _) $$ Hw
  iintro Hw
  iapply (load_stg5 c _ _) $$ Hg
  iintro Hg
  iapply (wp_store 𝒱₀ (c : Thread nD τ) none Set.univ (m := (Memref.whole cc0_stg5_0 : Memref sig .tc .vmem S1x256x1024 .f32))
    (r := Rect.unit (s := S1x256x1024) ![0, 0, 0] S1x256x1024.size inb_S1x256x1024_S1x256x1024_0_0_0) (S := Finset.univ) (f := g) (Finset.subset_univ _)) $$ Hg
  iintro Hg
  ihave Hg := (Entails.of_eq (congrArg (sP c cc0_stg5_0) (Memref.write_access_unit_zero_univ (Elt F) cc0_stg5_0 zero3 inb_S1x256x1024_S1x256x1024_0_0_0 g _))) $$ Hg
  simp only [wp_ret]
  imodintro
  iapply HQ
  isplitl [Hw]; · iexact Hw
  iexact Hg

/-- Part 15: the own outputs have been read by the first two copies, the upper half of the left neighbour's by its relay. -/
theorem part15 (κ : GSem nD τ sig → ℕ) (c : Dev nD) (Q : PUnit → sProp 𝕄) :
    iprop((records ov mv lv κ ∗ levAts Lt lev ∗ ow c [] ∗ claimOn c 0 (amt 4) ∗ claimOn c 1 (amt 5) ∗ claimOn c 2 (amt 6))
      ∗ ((ow c [] ∗ (atPos ER (dCell c 0) (0 + 1) ∅ 0 ∗ oP fullShare.left (oRows 0 0 256) c (oBuf ov c)) ∗ (atPos ER (dCell c 1) (0 + 1) ∅ 0 ∗ oP fullShare.right (oRows 0 0 256) c (oBuf ov c)) ∗ (atPos ER (dCell c 2) (0 + 1) ∅ 0 ∗ oP fullShare.left (oRows 1 0 128) c (oBuf ov c))) -∗ Q ⟨⟩))
      ⊢ WP c (k0_part15 (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 oM ho mM hm cc0_scratch2 cc0_scratch3 cc0_scratch4 cc0_scratch5) Q := by
  simp only [k0_part15_eq_skeleton]
  unfold k0_part15_skel
  simp only [Prog.lift, Prog.bind_op, Prog.bind_ret, Prog.pure_eq_ret, Prog.bind_assoc]
  iintro ⟨⟨#HR, #Hlev, HO, Hc0, Hc1, Hc2⟩, HQ⟩
  iapply (wp_await ov mv lv κ c 0 [] (fun _ h => nomatch h) (fun _ h => nomatch h) (src := oS1) (dst := oS0) (amt 4) rfl rfl (oP fullShare.left (oRows 0 0 256) c (oBuf ov c)) rfl) $$ [HO Hc0]
  · isplitr; · iexact HR
    isplitr; · iexact Hlev
    isplitl [HO]; · iexact HO
    iexact Hc0
  iintro ⟨HO, Hat0, H0⟩
  iapply (wp_await ov mv lv κ c 1 [] (fun _ h => nomatch h) (fun _ h => nomatch h) (src := oS2) (dst := oS0) (amt 5) rfl rfl (oP fullShare.right (oRows 0 0 256) c (oBuf ov c)) rfl) $$ [HO Hc1]
  · isplitr; · iexact HR
    isplitr; · iexact Hlev
    isplitl [HO]; · iexact HO
    iexact Hc1
  iintro ⟨HO, Hat1, H1⟩
  iapply (wp_await ov mv lv κ c 2 [] (fun _ h => nomatch h) (fun _ h => nomatch h) (src := oS3l) (dst := oS1l) (amt 6) rfl rfl (oP fullShare.left (oRows 1 0 128) c (oBuf ov c)) rfl) $$ [HO Hc2]
  · isplitr; · iexact HR
    isplitr; · iexact Hlev
    isplitl [HO]; · iexact HO
    iexact Hc2
  iintro ⟨HO, Hat2, H2⟩
  simp only [wp_ret]
  imodintro
  iapply HQ
  isplitl [HO]; · iexact HO
  isplitl [Hat0 H0]; · isplitl [Hat0] <;> iassumption
  isplitl [Hat1 H1]; · isplitl [Hat1] <;> iassumption
  isplitl [Hat2] <;> iassumption

end Cert.RingAttn
-- ==== Proof.Body.lean ====
/-
# The body of one device

One run of the whole body: from the device's tokens, its part of the buffers and its staged blocks to the two buffers
filled as planned, the result written, and every semaphore's round finished.
-/
module

public import proofs.«01_k».proof.Proof.BodyB

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ov : OPart F) (mv lv : MPart F)

variable {h0 : (Memref.whole cc0_stg0_0 : Memref sig .tc .vmem S1x256x1024 .bf16).IsWhole} {h1 : (Memref.whole cc0_stg1_0 : Memref sig .tc .vmem S1024x1024 .bf16).IsWhole}
  {h2 : (Memref.whole cc0_stg2_0 : Memref sig .tc .vmem S1024x1024 .bf16).IsWhole} {h3 : (Memref.whole cc0_stg3_0 : Memref sig .tc .vmem S4096x256 .bf16).IsWhole}
  {h4 : (Memref.whole cc0_stg4_0 : Memref sig .tc .vmem S4096x256 .bf16).IsWhole} {h5 : (Memref.whole cc0_stg5_0 : Memref sig .tc .vmem S1x256x1024 .f32).IsWhole}
  {ho : oM.IsWhole} {hm : mM.IsWhole}

/-- The tokens of one copy that are known from the start. -/
def toks (c n : Dev nD) (kS kR : Fin 14) : sProp 𝕄 :=
  iprop(dutyTok ER (dCell c kS) 0 false ∗ reached ER (dCell c kS) 0 ∗ dutyTok ER (dCell n kR) 0 false)
/-- With the target cell's round known, the tokens of a copy are the rights to start it. -/
theorem toks_rights (c n : Dev nD) (kS kR : Fin 14) : iprop(toks c n kS kR ∗ reached ER (dCell n kR) 0) ⊢ (rights c n kS kR : sProp 𝕄) := by
  unfold toks rights
  iintro ⟨⟨H1, H2, H3⟩, H4⟩
  isplitl [H1]; · iexact H1
  isplitl [H2]; · iexact H2
  isplitl [H3] <;> iassumption
/-- A credit and a position on one cell are the right to wait there. -/
theorem claim_intro (c : Dev nD) (k : Fin 14) (N : ℕ) : iprop(cred (tallyAt (dCell c k) () N) ∗ atPos ER (dCell c k) 0 ∅ 0) ⊢ (claimOn c k N : sProp 𝕄) := by
  unfold claimOn; exact BI.Entails.refl _

/-- The positions of the fourteen semaphores' cells, at round `r`. -/
def positions (c : Dev nD) (r : ℕ) : sProp 𝕄 :=
  iprop(atPos ER (dCell c 0) r ∅ 0 ∗ atPos ER (dCell c 1) r ∅ 0 ∗ atPos ER (dCell c 2) r ∅ 0 ∗ atPos ER (dCell c 3) r ∅ 0 ∗ atPos ER (dCell c 4) r ∅ 0 ∗ atPos ER (dCell c 5) r ∅ 0 ∗ atPos ER (dCell c 6) r ∅ 0 ∗ atPos ER (dCell c 7) r ∅ 0 ∗ atPos ER (dCell c 8) r ∅ 0 ∗ atPos ER (dCell c 9) r ∅ 0 ∗ atPos ER (dCell c 10) r ∅ 0 ∗ atPos ER (dCell c 11) r ∅ 0 ∗ atPos ER (dCell c 12) r ∅ 0 ∗ atPos ER (dCell c 13) r ∅ 0)

/-- What the device starts the body with besides its staged blocks. -/
def startB (κ : GSem nD τ sig → ℕ) (c : Dev nD) : sProp 𝕄 :=
  iprop(records ov mv lv κ ∗ levAts Lt lev ∗ ow c (oweL c) ∗ (dutyTok ER (barCell (prv c)) 0 true ∗ dutyTok ER (barCell (nxt c)) 0 false)
    ∗ (barT c ∗ barF c ∗ (∃ f, oP fullShare (oRows 0 0 256) c f) ∗ ∃ f, mP fullShare (mSlot 0) c f)
    ∗ (cred (tallyAt (barCell c) () 2) ∗ atPos ER (barCell c) 0 ∅ 0)
    ∗ (toks c (nxt c) 0 4 ∗ toks c (prv c) 1 5 ∗ toks c (nxt c) 8 11 ∗ toks c (prv c) 9 12 ∗ toks c (nxt c) 2 6 ∗ toks c (nxt c) 10 13 ∗ toks c (prv c) 3 7)
    ∗ (cred (tallyAt (dCell c 4) () (amt 4)) ∗ cred (tallyAt (dCell c 5) () (amt 5)) ∗ cred (tallyAt (dCell c 6) () (amt 6)) ∗ cred (tallyAt (dCell c 7) () (amt 7)) ∗ cred (tallyAt (dCell c 11) () (amt 11)) ∗ cred (tallyAt (dCell c 12) () (amt 12)) ∗ cred (tallyAt (dCell c 13) () (amt 13)))
    ∗ positions c 0)

/-- What it ends it with. -/
def endB (c : Dev nD) : sProp 𝕄 :=
  iprop(ow c [] ∗ atPos ER (barCell c) (0 + 1) ∅ 0 ∗ positions c (0 + 1) ∗ oP fullShare Finset.univ c (oBuf ov c) ∗ mP fullShare Finset.univ c (mBuf mv lv c))

/-- A sequence runs its first part and then the rest. -/
theorem WP_bind {α β : Type} (c : Dev nD) (p : Prog (TpuEff nD τ sig (Elt F) Λ₀ .tc) α) (k : α → Prog (TpuEff nD τ sig (Elt F) Λ₀ .tc) β) (Q : β → sProp 𝕄) :
    WP c (p >>= k) Q = WP c p (fun a => WP c (k a) Q) := wp_bind ..

set_option maxHeartbeats 2000000 in
/-- The whole body. -/
theorem body_run (κ : GSem nD τ sig → ℕ) (c : Dev nD) (I : Ins F) (ho' : k0_pay48 (V152 I) = ov c) (hm' : k0_pay49 (V149 I) = mv c) (hl' : k0_pay50 (V150 I) = lv c)
    (g : S1x256x1024.Idx → Elt F .f32) (Q : PUnit → sProp 𝕄) :
    iprop((startB ov mv lv κ c ∗ sP c cc0_stg0_0 I.x ∗ sP c cc0_stg1_0 I.wq ∗ sP c cc0_stg2_0 I.wo ∗ sP c cc0_stg3_0 I.k ∗ sP c cc0_stg4_0 I.v ∗ sP c cc0_stg5_0 g)
      ∗ ((endB ov mv lv c ∗ sP c cc0_stg0_0 I.x ∗ sP c cc0_stg1_0 I.wq ∗ sP c cc0_stg2_0 I.wo ∗ sP c cc0_stg3_0 I.k ∗ sP c cc0_stg4_0 I.v
          ∗ sP c cc0_stg5_0 (outV I (got ov mv lv c))) -∗ Q ⟨⟩))
      ⊢ WP c (cc0_body (F := F) (Memref.whole cc0_stg0_0) h0 (Memref.whole cc0_stg1_0) h1 (Memref.whole cc0_stg2_0) h2 (Memref.whole cc0_stg3_0) h3 (Memref.whole cc0_stg4_0) h4 (Memref.whole cc0_stg5_0) h5 oM ho mM hm cc0_scratch2 cc0_scratch3 cc0_scratch4 cc0_scratch5) Q := by
  generalize hG : got ov mv lv c = G
  simp only [cc0_body_eq_skeleton]
  unfold cc0_body_skel
  simp only [k0_part16_eq_skeleton]
  unfold k0_part16_skel
  simp only [Prog.lift, Prog.bind_op, Prog.bind_ret, Prog.pure_eq_ret, Prog.bind_assoc]
  unfold startB positions
  iintro ⟨⟨⟨#HR, #Hlev, HO, ⟨Hb1, Hb2⟩, ⟨HbT, HbF, ⟨%fo, Ho0⟩, ⟨%fm, Hm0⟩⟩, ⟨HcB, HaB⟩, ⟨Ta, Tb, Tma, Tmb, Tc, Tmc, Td⟩, ⟨C4, C5, C6, C7, C11, C12, C13⟩, ⟨P0, P1, P2, P3, P4, P5, P6, P7, P8, P9, P10, P11, P12, P13⟩⟩, Hx, Hq, Hw, Hk, Hv, Hg⟩, HQ⟩
  ihave K4 := (claim_intro c 4 (amt 4)) $$ [C4 P4]
  · isplitl [C4] <;> iassumption
  ihave K5 := (claim_intro c 5 (amt 5)) $$ [C5 P5]
  · isplitl [C5] <;> iassumption
  ihave K6 := (claim_intro c 6 (amt 6)) $$ [C6 P6]
  · isplitl [C6] <;> iassumption
  ihave K7 := (claim_intro c 7 (amt 7)) $$ [C7 P7]
  · isplitl [C7] <;> iassumption
  ihave K11 := (claim_intro c 11 (amt 11)) $$ [C11 P11]
  · isplitl [C11] <;> iassumption
  ihave K12 := (claim_intro c 12 (amt 12)) $$ [C12 P12]
  · isplitl [C12] <;> iassumption
  ihave K13 := (claim_intro c 13 (amt 13)) $$ [C13 P13]
  · isplitl [C13] <;> iassumption
  rw [WP_bind]
  iapply (part1 ov mv lv κ c) $$ [-]
  isplitl [HO Hb1 Hb2 HbT HbF HcB HaB]
  · isplitr; · iexact HR
    isplitr; · iexact Hlev
    isplitl [HO]; · iexact HO
    isplitl [Hb1]; · iexact Hb1
    isplitl [Hb2]; · iexact Hb2
    isplitl [HbT]; · iexact HbT
    isplitl [HbF]; · iexact HbF
    isplitl [HcB]; · iexact HcB
    iexact HaB
  iintro ⟨HO, HaB, HF, HT⟩
  iintro %v14 %v25
  dsimp only
  unfold barF barT
  icases HF with ⟨Dpo2, Dpo3, Dpm2, R5, R7, R12⟩
  icases HT with ⟨Dno1, Dno3, Dnm1, Dnm3, R4, R6, R11, R13⟩
  ihave Ta := (toks_rights c (nxt c) 0 4) $$ [Ta R4]
  · isplitl [Ta] <;> iassumption
  ihave Tb := (toks_rights c (prv c) 1 5) $$ [Tb R5]
  · isplitl [Tb] <;> iassumption
  ihave Tma := (toks_rights c (nxt c) 8 11) $$ [Tma R11]
  · isplitl [Tma] <;> iassumption
  ihave Tmb := (toks_rights c (prv c) 9 12) $$ [Tmb R12]
  · isplitl [Tmb] <;> iassumption
  ihave Tc := (toks_rights c (nxt c) 2 6) $$ [Tc R6]
  · isplitl [Tc] <;> iassumption
  ihave Tmc := (toks_rights c (nxt c) 10 13) $$ [Tmc R13]
  · isplitl [Tmc] <;> iassumption
  ihave Td := (toks_rights c (prv c) 3 7) $$ [Td R7]
  · isplitl [Td] <;> iassumption
  rw [WP_bind]
  iapply (part2 ov mv lv κ c I  ⟨(V36 I), (V38 I), (V40 I), (V46 I), (V51 I), (V53 I), (V59 I), (V64 I), (V66 I), (V68 I), (Scalar.ofBits .f32 0x3DB504F3#32)⟩ rfl) $$ [-]
  isplitl [Hx Hq Hk Hv]
  · isplitr; · iexact HR
    isplitr; · iexact Hlev
    isplitl [Hx]; · iexact Hx
    isplitl [Hq]; · iexact Hq
    isplitl [Hk]; · iexact Hk
    iexact Hv
  iintro ⟨Hx, Hq, Hk, Hv⟩
  dsimp only
  rw [WP_bind]
  iapply (part3 ov mv lv κ c I (V36 I) (V38 I) (V40 I) (V68 I) (Scalar.ofBits .f32 0x3DB504F3#32) ⟨(V72 I), (V77 I), (V79 I), (V85 I), (V90 I), (V92 I), (V94 I), (V96 I), (V102 I), (V107 I), (V109 I), (V110 I), (constant S256x4096 .f32 0x00000000#32)⟩ rfl) $$ [-]
  isplitl [Hk Hv]
  · isplitr; · iexact HR
    isplitr; · iexact Hlev
    isplitl [Hk]; · iexact Hk
    iexact Hv
  iintro ⟨Hk, Hv⟩
  dsimp only
  rw [WP_bind]
  iapply (part4 ov mv lv κ c fo ((oM.access rO0).read (Elt F) fo) rfl (V36 I) (V46 I) (V51 I) (V53 I) (V59 I) (V64 I) (V66 I) (V72 I) (V77 I) (V79 I) (V85 I) (V90 I) (V92 I) (V94 I) (V96 I) (V102 I) (V107 I) (V109 I) (V110 I) (constant S256x4096 .f32 0x00000000#32) ⟨(V122 I), (V135 I), (V148 I), (V149 I), (V150 I), (V152 I), _⟩ rfl) $$ [-]
  isplitl [Ho0]
  · isplitr; · iexact HR
    isplitr; · iexact Hlev
    iexact Ho0
  iintro Ho0
  dsimp only
  rw [WP_bind]
  iapply (part5 ov mv lv κ c v14 v25 (V149 I) (V150 I) (V152 I) _ ho' hm' hl') $$ [-]
  isplitl [HO Ho0 Hm0 Dno1 Ta Dpo2 Tb]
  · isplitr; · iexact HR
    isplitl [HO]; · iexact HO
    isplitl [Ho0]; · iexists fo; iexact Ho0
    isplitl [Hm0]; · iexists fm; iexact Hm0
    isplitl [Dno1]; · iexact Dno1
    isplitl [Ta]; · iexact Ta
    isplitl [Dpo2]; · iexact Dpo2
    iexact Tb
  iintro ⟨HO, S0, S1, Hm0⟩
  rw [WP_bind]
  iapply (part6 ov mv lv κ c v14 v25) $$ [-]
  isplitl [HO Hm0 Dnm1 Tma Dpm2 Tmb K4]
  · isplitr; · iexact HR
    isplitr; · iexact Hlev
    isplitl [HO]; · iexact HO
    isplitl [Hm0]; · iexact Hm0
    isplitl [Dnm1]; · iexact Dnm1
    isplitl [Tma]; · iexact Tma
    isplitl [Dpm2]; · iexact Dpm2
    isplitl [Tmb]; · iexact Tmb
    iexact K4
  iintro ⟨HO, S8, S9, P4, Ho1⟩
  ihave Ho1 := ((o_halves (oRows 1 0 256) c (oBuf ov c)).1) $$ Ho1
  icases Ho1 with ⟨Ho1L, Ho1⟩
  ihave Ho1L := ((o_slot1 fullShare.left c (oBuf ov c)).1) $$ Ho1L
  icases Ho1L with ⟨Ho1a, Ho1b⟩
  rw [WP_bind]
  iapply (part7 ov mv lv κ c v25) $$ [-]
  isplitl [HO K11 Ho1a Dno3 Tc]
  · isplitr; · iexact HR
    isplitr; · iexact Hlev
    isplitl [HO]; · iexact HO
    isplitl [K11]; · iexact K11
    isplitl [Ho1a]; · iexact Ho1a
    isplitl [Dno3]; · iexact Dno3
    iexact Tc
  iintro ⟨HO, S2, P11, Hm1⟩
  ihave Hm1 := ((m_halves (mSlot 1) c (mBuf mv lv c)).1) $$ Hm1
  icases Hm1 with ⟨Hm1L, Hm1⟩
  rw [WP_bind]
  iapply (part8 ov mv lv κ c v14) $$ [-]
  isplitl [HO Hm1L Dnm3 Tmc K5 K12 Dpo3 Td]
  · isplitr; · iexact HR
    isplitr; · iexact Hlev
    isplitl [HO]; · iexact HO
    isplitl [Hm1L]; · iexact Hm1L
    isplitl [Dnm3]; · iexact Dnm3
    isplitl [Tmc]; · iexact Tmc
    isplitl [K5]; · iexact K5
    isplitl [K12]; · iexact K12
    isplitl [Dpo3]; · iexact Dpo3
    iexact Td
  iintro ⟨HO, S10, S3, P5, P12, Ho2, Ho2a, Hm2⟩
  rw [WP_bind]
  iapply (part9 ov mv lv κ c I (V53 I) (V66 I) (V79 I) (V92 I) (V109 I) (V149 I) (V150 I) ⟨(V268 I G), (V270 I G), (V272 I G), (V275 I G), (V278 I G), (V286 I G), (V294 I G), (V302 I G), (V310 I G), (V313 I G), (V314 I G)⟩ (by rw [← hG]; rfl)) $$ [-]
  isplitl [Hm1 Ho1]
  · isplitr; · iexact HR
    isplitr; · iexact Hlev
    isplitl [Hm1]; · iexact Hm1
    iexact Ho1
  iintro ⟨Hm1, Ho1⟩
  dsimp only
  rw [WP_bind]
  iapply (part10 ov mv lv κ c I (V122 I) (V135 I) (V148 I) (V268 I G) (V270 I G) (V272 I G) (V275 I G) (V278 I G) (V286 I G) (V313 I G) (V314 I G) ⟨(V318 I G), (V326 I G), (V334 I G), (V342 I G), (V347 I G), (V349 I G), (V351 I G), (V354 I G), (V357 I G), (V365 I G)⟩ (by rw [← hG]; rfl)) $$ [-]
  isplitl [Hm2 Ho2]
  · isplitr; · iexact HR
    isplitr; · iexact Hlev
    isplitl [Hm2]; · iexact Hm2
    iexact Ho2
  iintro ⟨Hm2, Ho2⟩
  dsimp only
  rw [WP_bind]
  iapply (part11 ov mv lv κ c I (V294 I G) (V302 I G) (V310 I G) (V318 I G) (V326 I G) (V334 I G) (V342 I G) (V349 I G) (V351 I G) (V357 I G) ⟨(V373 I G), (V381 I G), (V389 I G), (V397 I G), (V405 I G), (V413 I G), (V421 I G)⟩ (by rw [← hG]; rfl)) $$ [-]
  isplitl [HO]
  · isplitr; · iexact HR
    isplitr; · iexact Hlev
    iexact HO
  iintro HO
  dsimp only
  rw [WP_bind]
  iapply (part12 ov mv lv κ c I v14 v25 (V447 I G) (by rw [← hG]; rfl)) $$ [-]
  isplitl [HO K6 K7 K13]
  · isplitr; · iexact HR
    isplitr; · iexact Hlev
    isplitl [HO]; · iexact HO
    isplitl [K6]; · iexact K6
    isplitl [K7]; · iexact K7
    iexact K13
  iintro ⟨HO, P6, P7, P13, Ho3, Hm3⟩
  rw [WP_bind]
  iapply (part13 ov mv lv κ c I (V347 I G) (V354 I G) (V365 I G) (V373 I G) (V381 I G) (V389 I G) (V397 I G) (V405 I G) (V447 I G) ⟨(V452 I G), (V454 I G), (V457 I G), (V460 I G), (V468 I G), (V476 I G), (V484 I G), (V492 I G), (V500 I G), (V503 I G)⟩ (by rw [← hG]; rfl)) $$ [-]
  isplitl [Hm3 Ho3]
  · isplitr; · iexact HR
    isplitr; · iexact Hlev
    isplitl [Hm3]; · iexact Hm3
    iexact Ho3
  iintro ⟨Hm3, Ho3⟩
  dsimp only
  rw [WP_bind]
  iapply (part14 c I (V413 I G) (V421 I G) (V452 I G) (V454 I G) (V457 I G) (V460 I G) (V468 I G) (V476 I G) (V484 I G) (V492 I G) (V500 I G) (V503 I G) g (outV I G) rfl) $$ [-]
  isplitl [Hw Hg]; · isplitl [Hw] <;> iassumption
  iintro ⟨Hw, Hg⟩
  ihave K0 := (claim_intro c 0 (amt 4)) $$ [S0 P0]
  · isplitl [S0] <;> iassumption
  ihave K1 := (claim_intro c 1 (amt 5)) $$ [S1 P1]
  · isplitl [S1] <;> iassumption
  ihave K2 := (claim_intro c 2 (amt 6)) $$ [S2 P2]
  · isplitl [S2] <;> iassumption
  ihave K3 := (claim_intro c 3 (amt 7)) $$ [S3 P3]
  · isplitl [S3] <;> iassumption
  ihave K8 := (claim_intro c 8 (amt 11)) $$ [S8 P8]
  · isplitl [S8] <;> iassumption
  ihave K9 := (claim_intro c 9 (amt 12)) $$ [S9 P9]
  · isplitl [S9] <;> iassumption
  ihave K10 := (claim_intro c 10 (amt 13)) $$ [S10 P10]
  · isplitl [S10] <;> iassumption
  rw [WP_bind]
  iapply (part15 ov mv lv κ c ) $$ [-]
  isplitl [HO K0 K1 K2]
  · isplitr; · iexact HR
    isplitr; · iexact Hlev
    isplitl [HO]; · iexact HO
    isplitl [K0]; · iexact K0
    isplitl [K1]; · iexact K1
    iexact K2
  iintro ⟨HO, ⟨P0, H0⟩, ⟨P1, H1⟩, ⟨P2, H2⟩⟩
  iapply (wp_await ov mv lv κ c 3 [] (fun _ h => nomatch h) (fun _ h => nomatch h) (src := oS3h) (dst := oS2h) (amt 7) rfl rfl (oP fullShare.left (oRows 2 128 128) c (oBuf ov c)) rfl) $$ [HO K3]
  · isplitr; · iexact HR
    isplitr; · iexact Hlev
    isplitl [HO]; · iexact HO
    iexact K3
  iintro ⟨HO, P3, H3⟩
  iapply (wp_await ov mv lv κ c 8 [] (fun _ h => nomatch h) (fun _ h => nomatch h) (src := mS1) (dst := mS0) (amt 11) rfl rfl (mP fullShare.left (mSlot 0) c (mBuf mv lv c)) rfl) $$ [HO K8]
  · isplitr; · iexact HR
    isplitr; · iexact Hlev
    isplitl [HO]; · iexact HO
    iexact K8
  iintro ⟨HO, P8, H8⟩
  iapply (wp_await ov mv lv κ c 9 [] (fun _ h => nomatch h) (fun _ h => nomatch h) (src := mS2) (dst := mS0) (amt 12) rfl rfl (mP fullShare.right (mSlot 0) c (mBuf mv lv c)) rfl) $$ [HO K9]
  · isplitr; · iexact HR
    isplitr; · iexact Hlev
    isplitl [HO]; · iexact HO
    iexact K9
  iintro ⟨HO, P9, H9⟩
  iapply (wp_await ov mv lv κ c 10 [] (fun _ h => nomatch h) (fun _ h => nomatch h) (src := mS3) (dst := mS1) (amt 13) rfl rfl (mP fullShare.left (mSlot 1) c (mBuf mv lv c)) rfl) $$ [HO K10]
  · isplitr; · iexact HR
    isplitr; · iexact Hlev
    isplitl [HO]; · iexact HO
    iexact K10
  iintro ⟨HO, P10, H10⟩
  simp only [wp_ret]
  imodintro
  iapply HQ
  isplitr [Hx Hq Hw Hk Hv Hg]
  · unfold endB positions
    isplitl [HO]; · iexact HO
    isplitl [HaB]; · iexact HaB
    isplitl [P0 P1 P2 P3 P4 P5 P6 P7 P8 P9 P10 P11 P12 P13]
    · isplitl [P0]; · iexact P0
      isplitl [P1]; · iexact P1
      isplitl [P2]; · iexact P2
      isplitl [P3]; · iexact P3
      isplitl [P4]; · iexact P4
      isplitl [P5]; · iexact P5
      isplitl [P6]; · iexact P6
      isplitl [P7]; · iexact P7
      isplitl [P8]; · iexact P8
      isplitl [P9]; · iexact P9
      isplitl [P10]; · iexact P10
      isplitl [P11]; · iexact P11
      isplitl [P12]; · iexact P12
      iexact P13
    isplitl [H0 H1 Ho1 H2 Ho1b Ho2 Ho2a H3 Ho3]
    · iapply (o_split fullShare c (oBuf ov c)).2
      isplitl [H0 H1]
      · iapply (o_halves (oRows 0 0 256) c (oBuf ov c)).2
        isplitl [H0] <;> iassumption
      isplitl [Ho1 H2 Ho1b]
      · iapply (o_halves (oRows 1 0 256) c (oBuf ov c)).2
        isplitl [H2 Ho1b]
        · iapply (o_slot1 fullShare.left c (oBuf ov c)).2
          isplitl [H2] <;> iassumption
        · iexact Ho1
      isplitl [Ho2 Ho2a H3]
      · iapply (o_halves (oRows 2 0 256) c (oBuf ov c)).2
        isplitl [Ho2a H3]
        · iapply (o_slot2 fullShare.left c (oBuf ov c)).2
          isplitl [Ho2a] <;> iassumption
        · iexact Ho2
      iexact Ho3
    · iapply (m_split fullShare c (mBuf mv lv c)).2
      isplitl [H8 H9]
      · iapply (m_halves (mSlot 0) c (mBuf mv lv c)).2
        isplitl [H8] <;> iassumption
      isplitl [H10 Hm1]
      · iapply (m_halves (mSlot 1) c (mBuf mv lv c)).2
        isplitl [H10] <;> iassumption
      isplitl [Hm2] <;> iassumption
  isplitl [Hx]; · iexact Hx
  isplitl [Hq]; · iexact Hq
  isplitl [Hw]; · iexact Hw
  isplitl [Hk]; · iexact Hk
  isplitl [Hv]; · iexact Hv
  iexact Hg

end Cert.RingAttn
-- ==== Proof.Cells.lean ====
/-
# The cells, tokens and credits of one launch

What the launch funds is dealt to the devices here: every duty's token goes to the device that pays the duty, the
launch credit of a cell to the device that waits on it. The cells of the kernel's own semaphores are opened when the
kernel is entered and closed when it is left.
-/
module

public import proofs.«01_k».proof.Proof.Body

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ov : OPart F) (mv lv : MPart F)

/-- The kernel's own semaphores, as locations. -/
def osem (k : Fin 14) : SemLoc sig := .dma (dq k)

/-- A product over the fourteen semaphores, written out. -/
theorem bigSep_fin14 {M : Type} [URA M] (Φ : Fin 14 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- The fourteen positions as one product. -/
theorem positions_eq (c : Dev nD) (r : ℕ) : (positions c r : sProp 𝕄) = bigSep Finset.univ fun k : Fin 14 => atPos ER (dCell c k) r ∅ 0 := by
  rw [bigSep_fin14]; rfl

/-- The kernel's own semaphores at zero, as one product over the fourteen. -/
theorem ownSems_eq (c : Dev nD) : (Pipeline.ownSems0 osem c : sProp 𝕄) = bigSep Finset.univ fun k : Fin 14 => semVal (dCell c k) 0 := rfl

/-- Entering the kernel opens the cells of its own semaphores. -/
theorem open_cells (κ : GSem nD τ sig → ℕ) (c : Dev nD) :
    iprop(records ov mv lv κ ∗ (bigSep Finset.univ fun k : Fin 14 => openTok ER (dCell c k)) ∗ Pipeline.ownSems0 osem c)
      ⊢ (|={Set.univ}=> iprop(positions c 0 ∗ bigSep Finset.univ fun k : Fin 14 => reached ER (dCell c k) 0) : sProp 𝕄) := by
  have h1 : ∀ k ∈ (Finset.univ : Finset (Fin 14)), iprop(records ov mv lv κ ∗ (openTok ER (dCell c k) ∗ semVal (dCell c k) 0))
      ⊢ (|={Set.univ}=> iprop(atPos ER (dCell c k) 0 ∅ 0 ∗ reached ER (dCell c k) 0) : sProp 𝕄) := fun k _ => by
    iintro ⟨#HR, Ho, Hs⟩
    iapply (Rounds.cell_open ER (sch ov mv lv) (g := dCell c k) (Set.mem_univ (κ (dCell c k))))
    isplitr; · iapply (rec_d ov mv lv κ c k); iexact HR
    isplitl [Ho] <;> iassumption
  rw [positions_eq, ← bigSep_sep', ownSems_eq]
  iintro ⟨#HR, Ho, Hs⟩
  iapply bigSep_fupd
  iapply (bigSep_with_persistent h1)
  isplitr; · iexact HR
  rw [bigSep_sep']
  isplitl [Ho]; · iexact Ho
  iexact Hs

/-- Leaving the kernel closes them, and their semaphores are at zero. -/
theorem close_cells (κ : GSem nD τ sig → ℕ) (c : Dev nD) :
    iprop(records ov mv lv κ ∗ positions c (0 + 1)) ⊢ (|={Set.univ}=> Pipeline.ownSems0 osem c : sProp 𝕄) := by
  have h1 : ∀ k ∈ (Finset.univ : Finset (Fin 14)), iprop(records ov mv lv κ ∗ atPos ER (dCell c k) (0 + 1) ∅ 0)
      ⊢ (|={Set.univ}=> semVal (dCell c k) 0 : sProp 𝕄) := fun k _ => by
    iintro ⟨#HR, Ha⟩
    iapply (Rounds.cell_close ER (sch ov mv lv) (g := dCell c k) (Set.mem_univ (κ (dCell c k))) (fun h => h) (R := 0 + 1) (duties_later ov mv lv (dCell c k)))
    isplitr; · iapply (rec_d ov mv lv κ c k); iexact HR
    iexact Ha
  rw [ownSems_eq, positions_eq]
  iintro ⟨#HR, Ha⟩
  iapply bigSep_fupd
  iapply (bigSep_with_persistent h1)
  isplitr; · iexact HR
  iexact Ha

/-- And the barrier's. -/
theorem close_bar (κ : GSem nD τ sig → ℕ) (c : Dev nD) :
    iprop(records ov mv lv κ ∗ atPos ER (barCell c) (0 + 1) ∅ 0) ⊢ (|={Set.univ}=> semVal (barCell c) 0 : sProp 𝕄) := by
  iintro ⟨#HR, Ha⟩
  iapply (Rounds.cell_close ER (sch ov mv lv) (g := barCell c) (Set.mem_univ (κ (barCell c))) (fun h => h) (R := 0 + 1) (duties_later ov mv lv (barCell c)))
  isplitr; · iapply (rec_bar ov mv lv κ c); iexact HR
  iexact Ha

/-! ## Tokens -/

/-- Going round the ring. -/
def ring : Dev nD ≃ Dev nD := ⟨nxt, prv, prv_nxt, nxt_prv⟩

/-- A product over the devices does not change when each is replaced by its right neighbour. -/
theorem around (Φ : Dev nD → sProp 𝕄) : bigSep Finset.univ Φ = bigSep Finset.univ fun c => Φ (nxt c) := bigSep_univ_equiv ring Φ
/-- Nor when each is replaced by its left neighbour. -/
theorem back (Φ : Dev nD → sProp 𝕄) : bigSep Finset.univ Φ = bigSep Finset.univ fun c => Φ (prv c) := bigSep_univ_equiv ring.symm Φ

/-- The sixteen duties of one device's cells: one per copy semaphore, two at the barrier. -/
abbrev tsem (j : Fin 16) : SemLoc sig := if h : j.val < 14 then .dma (dq ⟨j.val, h⟩) else .reg barS
/-- Which of the two barrier duties the sixteenth is. -/
abbrev tdu (j : Fin 16) : Bool := decide (j.val = 15)
/-- The sixteen duties differ by semaphore or by duty. -/
theorem tk_inj : Function.Injective (fun k : Fin 16 => (tsem k, tdu k)) := by decide
/-- All duties of all devices' cells, in the first round. -/
def allToks : Finset (GSem nD τ sig × ℕ × Bool) :=
  Finset.univ.map ⟨fun ck : Dev nD × Fin 16 => (((ck.1 : Thread nD τ), tsem ck.2), 0, tdu ck.2), fun _ _ h =>
    Prod.ext (congrArg (fun t : GSem nD τ sig × ℕ × Bool => t.1.1.1) h)
      (tk_inj (Prod.ext (congrArg (fun t : GSem nD τ sig × ℕ × Bool => t.1.2) h) (congrArg (fun t : GSem nD τ sig × ℕ × Bool => t.2.2) h)))⟩

/-- A barrier cell is not a copy's cell. -/
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact absurd (congrArg Prod.snd h) (by intro h; cases h)

/-- The token of the one duty of a copy semaphore. -/
abbrev tok (c : Dev nD) (k : Fin 14) : sProp 𝕄 := dutyTok ER (dCell c k) 0 false

/-- What is minted for device `c`'s own cells. -/
def mint (c : Dev nD) : sProp 𝕄 :=
  iprop(tok c 0 ∗ tok c 1 ∗ tok c 2 ∗ tok c 3 ∗ tok c 4 ∗ tok c 5 ∗ tok c 6 ∗ tok c 7 ∗ tok c 8 ∗ tok c 9 ∗ tok c 10 ∗ tok c 11 ∗ tok c 12 ∗ tok c 13
    ∗ dutyTok ER (barCell c) 0 false ∗ dutyTok ER (barCell c) 0 true)

/-- A product over the sixteen duties, written out. -/
theorem bigSep_fin16 {M : Type} [URA M] (Φ : Fin 16 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- The tokens of all duties are each device's minted ones. -/
theorem toks_mint : bigSep allToks (fun x => (dutyTok ER x.1 x.2.1 x.2.2 : sProp 𝕄)) = bigSep Finset.univ fun c : Dev nD => mint c := by
  unfold allToks; rw [bigSep_map, bigSep_univ_prod]
  exact bigSep_congr fun c _ => by unfold mint; rw [bigSep_fin16]; rfl

/-- What device `c` pays: its signal to either neighbour, and both ends of its seven copies. -/
def paid (c : Dev nD) : sProp 𝕄 :=
  iprop((dutyTok ER (barCell (prv c)) 0 true ∗ dutyTok ER (barCell (nxt c)) 0 false)
    ∗ (tok c 0 ∗ tok (nxt c) 4) ∗ (tok c 1 ∗ tok (prv c) 5) ∗ (tok c 8 ∗ tok (nxt c) 11) ∗ (tok c 9 ∗ tok (prv c) 12)
    ∗ (tok c 2 ∗ tok (nxt c) 6) ∗ (tok c 10 ∗ tok (nxt c) 13) ∗ (tok c 3 ∗ tok (prv c) 7))

/-- Every token reaches the device that pays its duty. -/
theorem deal : (bigSep Finset.univ fun c : Dev nD => (mint c : sProp 𝕄)) ⊢ bigSep Finset.univ fun c : Dev nD => paid c := by
  unfold mint paid
  simp only [bigSep_sep']
  rw [around (fun c => tok c 4), back (fun c => tok c 5), around (fun c => tok c 11), back (fun c => tok c 12),
    around (fun c => tok c 6), around (fun c => tok c 13), back (fun c => tok c 7),
    around (fun c => dutyTok ER (barCell c) 0 false), back (fun c => dutyTok ER (barCell c) 0 true)]
  iintro ⟨H0, H1, H2, H3, H4, H5, H6, H7, H8, H9, H10, H11, H12, H13, HF, HT⟩
  isplitl [HF HT]; · isplitl [HT] <;> iassumption
  isplitl [H0 H4]; · isplitl [H0] <;> iassumption
  isplitl [H1 H5]; · isplitl [H1] <;> iassumption
  isplitl [H8 H11]; · isplitl [H8] <;> iassumption
  isplitl [H9 H12]; · isplitl [H9] <;> iassumption
  isplitl [H2 H6]; · isplitl [H2] <;> iassumption
  isplitl [H10 H13]; · isplitl [H10] <;> iassumption
  isplitl [H3] <;> iassumption

/-! ## Credits -/

/-- Barrier cells are equal when their devices are. -/
theorem bar_iff (a b : Dev nD) : barCell a = barCell b ↔ a = b := ⟨fun h => congrArg (fun g : GSem nD τ sig => g.1.1) h, fun h => h ▸ rfl⟩
/-- Copies' cells are equal when device and semaphore are. -/
theorem d_iff (a b : Dev nD) (k l : Fin 14) : dCell a k = dCell b l ↔ a = b ∧ k = l :=
  ⟨fun h => by have := scEmb.injective (a₁ := (a, k)) (a₂ := (b, l)) h; exact ⟨congrArg Prod.fst this, congrArg Prod.snd this⟩, fun h => by rw [h.1, h.2]⟩
/-- A barrier cell never equals a copy's cell. -/
theorem bar_d (a b : Dev nD) (k : Fin 14) : (barCell a = dCell b k) = False := eq_false fun h => by cases (congrArg Prod.snd h)
/-- A copy's cell never equals a barrier cell. -/
theorem d_bar (a b : Dev nD) (k : Fin 14) : (dCell a k = barCell b) = False := eq_false fun h => by cases (congrArg Prod.snd h)
/-- Being the right neighbour's name, turned round. -/
theorem nxt_iff (a b : Dev nD) : nxt a = b ↔ a = prv b := ⟨fun h => by rw [← h, prv_nxt], fun h => by rw [h, nxt_prv]⟩
/-- Being the left neighbour's name, turned round. -/
theorem prv_iff (a b : Dev nD) : prv a = b ↔ a = nxt b := ⟨fun h => by rw [← h, nxt_prv], fun h => by rw [h, prv_nxt]⟩

/-- A barrier cell is owed one signal by either neighbour. -/
theorem owed_bar (d c : Dev nD) : OL (oweL d) (barCell c) () = (if d = nxt c then 1 else 0) + (if d = prv c then 1 else 0) := by
  rw [OL_apply]
  simp only [List.map_cons, List.map_nil, List.sum_cons, List.sum_nil, bar_iff, d_bar, if_false, Nat.add_zero, nxt_iff, prv_iff]

/-- A cell filled from the left is owed its bytes by the left neighbour alone. -/
theorem owed_nxt (d c : Dev nD) (k : Fin 14) (hk : k = 4 ∨ k = 11 ∨ k = 6 ∨ k = 13) : OL (oweL d) (dCell c k) () = if d = prv c then amt k else 0 := by
  rw [OL_apply]
  rcases hk with rfl | rfl | rfl | rfl <;>
    simp [d_iff, bar_d, nxt_iff]

/-- A cell filled from the right is owed its bytes by the right neighbour alone. -/
theorem owed_prv (d c : Dev nD) (k : Fin 14) (hk : k = 5 ∨ k = 12 ∨ k = 7) : OL (oweL d) (dCell c k) () = if d = nxt c then amt k else 0 := by
  rw [OL_apply]
  rcases hk with rfl | rfl | rfl <;>
    simp [d_iff, bar_d, prv_iff]

/-- At launch a barrier cell has two credits. -/
theorem launch_bar (c : Dev nD) : tallyOn (barCell c) (launchCredit (Pipeline.owing fun d => OL (oweL d)) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]

/-- At launch a copy's cell that one device owes `n` bytes has `n` credits. -/
theorem launch_d (c e : Dev nD) (k : Fin 14) (n : ℕ) (h : ∀ d, OL (oweL d) (dCell c k) () = if d = e then n else 0) :
    tallyOn (dCell c k) (launchCredit (Pipeline.owing fun d => OL (oweL d)) 0 (dCell c k)) = (tallyAt (dCell c k) () n : CellTallies nD τ sig Unit) := by
  unfold tallyAt; refine congrArg _ (Finsupp.ext fun u => ?_); cases u
  rw [Pipeline.launchCredit_owing, Finsupp.single_eq_same, Finset.sum_congr rfl fun d _ => h d,
    Finset.sum_ite_eq' Finset.univ e fun _ => n, if_pos (Finset.mem_univ _)]

/-- The credits device `c` spends at its waits for others. -/
def credits (c : Dev nD) : sProp 𝕄 :=
  iprop(cred (tallyAt (barCell c) () 2) ∗ cred (tallyAt (dCell c 4) () (amt 4)) ∗ cred (tallyAt (dCell c 5) () (amt 5)) ∗ cred (tallyAt (dCell c 6) () (amt 6)) ∗ cred (tallyAt (dCell c 7) () (amt 7)) ∗ cred (tallyAt (dCell c 11) () (amt 11)) ∗ cred (tallyAt (dCell c 12) () (amt 12)) ∗ cred (tallyAt (dCell c 13) () (amt 13)))

/-- What the launch grants a device includes the credits for its waits. -/
theorem credits_intro (c : Dev nD) : (Pipeline.launchCred (fun d => OL (oweL d)) c : sProp 𝕄) ⊢ credits c := by
  unfold Pipeline.launchCred
  refine (bigSep_subset (t := {.reg barS, .dma (dq 4), .dma (dq 5), .dma (dq 6), .dma (dq 7), .dma (dq 11), .dma (dq 12), .dma (dq 13)}) (Finset.subset_univ _)).trans ?_
  rw [bigSep_eq_bigSepL_of_eq [SemLoc.reg barS, .dma (dq 4), .dma (dq 5), .dma (dq 6), .dma (dq 7), .dma (dq 11), .dma (dq 12), .dma (dq 13)] (by decide) (by decide)]
  unfold credits
  rw [← launch_bar c, ← launch_d c _ 4 (amt 4) (fun d => owed_nxt d c 4 (by decide)), ← launch_d c _ 5 (amt 5) (fun d => owed_prv d c 5 (by decide)),
    ← launch_d c _ 6 (amt 6) (fun d => owed_nxt d c 6 (by decide)), ← launch_d c _ 7 (amt 7) (fun d => owed_prv d c 7 (by decide)),
    ← launch_d c _ 11 (amt 11) (fun d => owed_nxt d c 11 (by decide)), ← launch_d c _ 12 (amt 12) (fun d => owed_prv d c 12 (by decide)),
    ← launch_d c _ 13 (amt 13) (fun d => owed_nxt d c 13 (by decide))]
  exact BI.Entails.refl _

/-! ## What a device holds -/

/-- From launch: its barrier position, its rights to open its cells, the tokens of the duties it pays, its credits. -/
def linear (c : Dev nD) : sProp 𝕄 :=
  iprop(atPos ER (barCell c) 0 ∅ 0 ∗ (bigSep Finset.univ fun k : Fin 14 => openTok ER (dCell c k)) ∗ paid c ∗ credits c)

/-- In the kernel: the same with the cells open. -/
def opened (κ : GSem nD τ sig → ℕ) (c : Dev nD) : sProp 𝕄 :=
  iprop(records ov mv lv κ ∗ levAts Lt lev ∗ atPos ER (barCell c) 0 ∅ 0 ∗ (positions c 0 ∗ bigSep Finset.univ fun k : Fin 14 => reached ER (dCell c k) 0)
    ∗ paid c ∗ credits c)

/-- Entering the kernel, a device opens its cells and keeps the rest of what it holds. -/
theorem opens (c : Dev nD) : iprop((∃ κ, records ov mv lv κ ∗ linear c) ∗ Pipeline.ownSems0 osem c ∗ levAts Lt lev)
    ⊢ (|={Set.univ}=> iprop(∃ κ, opened ov mv lv κ c) : sProp 𝕄) := by
  unfold linear opened
  iintro ⟨⟨%κ, #HR, Ha, Ho, Hp, Hc⟩, Hs, #Hlev⟩
  imod (open_cells ov mv lv κ c) $$ [Ho Hs] with Hpos
  · isplitr; · iexact HR
    isplitl [Ho] <;> iassumption
  imodintro
  iexists κ
  isplitr; · iexact HR
  isplitr; · iexact Hlev
  isplitl [Ha]; · iexact Ha
  isplitl [Hpos]; · iexact Hpos
  isplitl [Hp] <;> iassumption

/-- With its buffers and its debts, a device with open cells can start the body. -/
theorem start_intro (κ : GSem nD τ sig → ℕ) (c : Dev nD) (fo : OBuf F) (fm : MBuf F) :
    iprop(opened ov mv lv κ c ∗ ow c (oweL c) ∗ oP fullShare Finset.univ c fo ∗ mP fullShare Finset.univ c fm) ⊢ startB ov mv lv κ c := by
  unfold opened startB paid credits toks tok barT barF
  rw [bigSep_fin14]
  iintro ⟨⟨#HR, #Hlev, Ha, ⟨Hpos, #R0, #R1, #R2, #R3, #R4, #R5, #R6, #R7, #R8, #R9, #R10, #R11, #R12, #R13⟩, ⟨Hbb,
    ⟨T0, T4⟩, ⟨T1, T5⟩, ⟨T8, T11⟩, ⟨T9, T12⟩, ⟨T2, T6⟩, ⟨T10, T13⟩, ⟨T3, T7⟩⟩, HcB, Hcs⟩, HO, Ho, Hm⟩
  ihave Ho := ((o_split fullShare c fo).1) $$ Ho
  icases Ho with ⟨O0, O1, O2, O3⟩
  ihave O3 := ((o_slot3 fullShare c fo).1) $$ O3
  icases O3 with ⟨O3l, O3h⟩
  ihave Hm := ((m_split fullShare c fm).1) $$ Hm
  icases Hm with ⟨M0, M1, M2, M3⟩
  isplitr; · iexact HR
  isplitr; · iexact Hlev
  isplitl [HO]; · iexact HO
  isplitl [Hbb]; · iexact Hbb
  isplitl [O0 O1 O2 O3l O3h M0 M1 M2 M3]
  · isplitl [O1 O3l M1 M3]
    · isplitl [O1]; · iexists fo; iexact O1
      isplitl [O3l]; · iexists fo; iexact O3l
      isplitl [M1]; · iexists fm; iexact M1
      isplitl [M3]; · iexists fm; iexact M3
      isplitr; · iexact R4
      isplitr; · iexact R6
      isplitr; · iexact R11
      iexact R13
    isplitl [O2 O3h M2]
    · isplitl [O2]; · iexists fo; iexact O2
      isplitl [O3h]; · iexists fo; iexact O3h
      isplitl [M2]; · iexists fm; iexact M2
      isplitr; · iexact R5
      isplitr; · iexact R7
      iexact R12
    isplitl [O0]; · iexists fo; iexact O0
    iexists fm; iexact M0
  isplitl [HcB Ha]; · isplitl [HcB] <;> iassumption
  isplitr [Hcs Hpos]
  · isplitl [T0 T4]
    · isplitl [T0]; · iexact T0
      isplitr; · iexact R0
      iexact T4
    isplitl [T1 T5]
    · isplitl [T1]; · iexact T1
      isplitr; · iexact R1
      iexact T5
    isplitl [T8 T11]
    · isplitl [T8]; · iexact T8
      isplitr; · iexact R8
      iexact T11
    isplitl [T9 T12]
    · isplitl [T9]; · iexact T9
      isplitr; · iexact R9
      iexact T12
    isplitl [T2 T6]
    · isplitl [T2]; · iexact T2
      isplitr; · iexact R2
      iexact T6
    isplitl [T10 T13]
    · isplitl [T10]; · iexact T10
      isplitr; · iexact R10
      iexact T13
    isplitl [T3]; · iexact T3
    isplitr; · iexact R3
    iexact T7
  isplitl [Hcs]; · iexact Hcs
  iexact Hpos

end Cert.RingAttn
-- ==== Proof.Launch.lean ====
/-
# The kernel as the region of the program

The data of the one pallas_call: its windows' contents before and after, what a device holds while the kernel runs,
and that the body does what the data say.
-/
module

public import proofs.«01_k».proof.Proof.Cells
public import Idealize.ShloMosaic.Lib.Pipeline.RegionTalk
public import Idealize.ShloMosaic.Lib.Pipeline.Value

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (l : Loc nD τ sig) → Buf (Elt F) l)

/-! ## The values -/

/-- The five operands of device `c`'s kernel. -/
def insOf (c : Dev nD) : Ins F where
  x := iblk m c 0 t0_0
  wq := iblk m c 1 t0_0
  wo := iblk m c 2 t0_0
  k := iblk m c 3 t0_0
  v := iblk m c 4 t0_0

/-- The part every device computes of its own rows: unnormalised output, row maxima, row sums. -/
def oOf : OPart F := fun d => k0_pay48 (V152 (insOf m d))
/-- The row maxima. -/
def mOf : MPart F := fun d => k0_pay49 (V149 (insOf m d))
/-- The row sums. -/
def lOf : MPart F := fun d => k0_pay50 (V150 (insOf m d))

/-- What device `c` writes. -/
def resOf (c : Dev nD) : S1x256x1024.Idx → Elt F .f32 := outV (insOf m c) (got (oOf m) (mOf m) (lOf m) c)

/-! ## The data -/

/-- The scratch buffers at contents not chosen, and the generator's register. -/
def spare (c : Dev nD) : sProp 𝕄 :=
  iprop(((∃ f, oP fullShare Finset.univ c f) ∗ ∃ f, mP fullShare Finset.univ c f) ∗ ∃ r, prngReg c r)

/-- What a device holds before the body, and after it. -/
def heldBefore (c : Dev nD) : sProp 𝕄 := iprop((∃ κ, opened (oOf m) (mOf m) (lOf m) κ c) ∗ spare c)
/-- After the body: all semaphores at zero again. -/
def heldAfter (c : Dev nD) : sProp 𝕄 := iprop(semVal (barCell c) 0 ∗ Pipeline.ownSems0 osem c ∗ spare c)

/-- What the one pipeline step reads, writes and holds on device `c`. -/
def dat (c : Dev nD) : Dat τ (Elt F) Unit ℕ UU ℕ cfg0 c where
  A w := V m c (Pipeline.arrRef spec0 w)
  after w _ := match w with
    | 0 => iblk m c 0 t0_0 | 1 => iblk m c 1 t0_0 | 2 => iblk m c 2 t0_0 | 3 => iblk m c 3 t0_0 | 4 => iblk m c 4 t0_0
    | 5 => resOf m c
  Φ t := if t.val = 0 then heldBefore m c else heldAfter c
  q _ := fullShare
  owed t := if t.val = 0 then OL (oweL c) else 0

/-- The one pipeline is admissible. -/
abbrev adm : (p : Fin 1) → (pcfgs (F := F) p).Adm := fun p => (cfgs p).toPCfg_adm
/-- The same as a family over the one pipeline. -/
def pdats : (p : Fin 1) → (c : Dev nD) → Dat τ (Elt F) Unit ℕ UU ℕ (Pipeline.pin (pcfgs (F := F)) adm p) c
  | 0 => dat m

/-- Before the step a device owes its launch debts. -/
theorem owed_first (c : Dev nD) : (dat m c).owed t0_0.castSucc = OL (oweL c) := by
  show (if (t0_0.castSucc : Fin (cfg0.N + 1)).val = 0 then OL (oweL c) else 0) = OL (oweL c)
  exact if_pos rfl
/-- After the step it owes nothing. -/
theorem owed_last (c : Dev nD) : (dat m c).owed t0_0.succ = 0 := by
  show (if (t0_0.succ : Fin (cfg0.N + 1)).val = 0 then OL (oweL c) else 0) = 0
  exact if_neg (by rw [Fin.val_succ]; omega)

/-- A debt with any record of waits is the debt the step asks for. -/
theorem owes_in {cfg : Cfg sig Λ₀} {c : Dev nD} (dt : Dat τ (Elt F) Unit ℕ UU ℕ cfg c) (t : Fin (cfg.N + 1)) (O : CellTallies nD τ sig Unit)
    (h : dt.owed t = O) (hr : dt.recorded t = Set.univ) : iprop(∃ W, owes (c : Thread nD τ) O W) ⊢ (dt.owesAt () t : sProp 𝕄) := by
  unfold Dat.owesAt Pipeline.owesWithin Dat.bound; rw [h, hr]
  iintro ⟨%W, HO⟩; iexists W
  isplitr; · ipureintro; exact fun _ _ => Or.inl trivial
  iexact HO
/-- And back. -/
theorem owes_out {cfg : Cfg sig Λ₀} {c : Dev nD} (dt : Dat τ (Elt F) Unit ℕ UU ℕ cfg c) (t : Fin (cfg.N + 1)) (O : CellTallies nD τ sig Unit)
    (h : dt.owed t = O) : (dt.owesAt () t : sProp 𝕄) ⊢ iprop(∃ W, owes (c : Thread nD τ) O W) := by
  unfold Dat.owesAt Pipeline.owesWithin; rw [h]
  iintro ⟨%W, -, HO⟩; iexists W; iexact HO

/-- The step finds the rows staged. -/
theorem before_0 (c : Dev nD) (d) : (dat m c).before 0 t0_0 d = (insOf m c).x := by
  unfold Dat.before; rw [if_pos (fetch0_0 t0_0)]; rfl
/-- It finds the query projection staged. -/
theorem before_1 (c : Dev nD) (d) : (dat m c).before 1 t0_0 d = (insOf m c).wq := by
  unfold Dat.before; rw [if_pos (fetch0_1 t0_0)]; rfl
/-- It finds the output projection staged. -/
theorem before_2 (c : Dev nD) (d) : (dat m c).before 2 t0_0 d = (insOf m c).wo := by
  unfold Dat.before; rw [if_pos (fetch0_2 t0_0)]; rfl
/-- It finds the keys staged. -/
theorem before_3 (c : Dev nD) (d) : (dat m c).before 3 t0_0 d = (insOf m c).k := by
  unfold Dat.before; rw [if_pos (fetch0_3 t0_0)]; rfl
/-- It finds the values staged. -/
theorem before_4 (c : Dev nD) (d) : (dat m c).before 4 t0_0 d = (insOf m c).v := by
  unfold Dat.before; rw [if_pos (fetch0_4 t0_0)]; rfl

/-- Holding a whole buffer's memref at `X` is holding the buffer at `X`. -/
theorem owns_whole (c : Dev nD) (b : Ref sig .tc) (X : b.ty.shape.Idx → Elt F b.ty.elt) :
    (owns (c : Thread nD τ) (Memref.whole b) fullShare X : sProp 𝕄) = iprop(∃ f, ⌜f = X⌝ ∗ (((c : Thread nD τ).loc b) ↦{fullShare} f)) := by
  unfold owns
  simp only [Memref.view_whole, View.read_whole, View.set_whole]

/-- The records can be copied out of what an opened device holds. -/
theorem opened_records (κ : GSem nD τ sig → ℕ) (c : Dev nD) (ov : OPart F) (mv lv : MPart F) :
    (opened ov mv lv κ c : sProp 𝕄) ⊢ iprop(records ov mv lv κ ∗ opened ov mv lv κ c) := by
  unfold opened
  iintro ⟨#HR, H⟩
  isplitr; · iexact HR
  isplitr; · iexact HR
  iexact H

/-- The body runs from what a device holds before it to what it holds after it, its semaphores given back. -/
theorem body_closed (c : Dev nD) (g : S1x256x1024.Idx → Elt F .f32) (Q : PUnit → sProp 𝕄) :
    iprop((heldBefore m c ∗ ow c (oweL c) ∗ sP c cc0_stg0_0 (insOf m c).x ∗ sP c cc0_stg1_0 (insOf m c).wq ∗ sP c cc0_stg2_0 (insOf m c).wo
        ∗ sP c cc0_stg3_0 (insOf m c).k ∗ sP c cc0_stg4_0 (insOf m c).v ∗ sP c cc0_stg5_0 g)
      ∗ ((heldAfter c ∗ ow c [] ∗ sP c cc0_stg0_0 (insOf m c).x ∗ sP c cc0_stg1_0 (insOf m c).wq ∗ sP c cc0_stg2_0 (insOf m c).wo
        ∗ sP c cc0_stg3_0 (insOf m c).k ∗ sP c cc0_stg4_0 (insOf m c).v ∗ sP c cc0_stg5_0 (resOf m c)) -∗ Q ⟨⟩))
      ⊢ WP c (bodyAt0 (F := F) t0_0) (fun a => iprop(|={Set.univ}=> Q a)) := by
  unfold heldBefore spare
  iintro ⟨⟨⟨⟨%κ, Hop⟩, ⟨⟨%fo, Ho⟩, ⟨%fm, Hm⟩⟩, Hp⟩, HO, Hx, Hq, Hw, Hk, Hv, Hg⟩, HQ⟩
  ihave Hop := (opened_records κ c (oOf m) (mOf m) (lOf m)) $$ Hop
  icases Hop with ⟨#HR, Hop⟩
  iapply (body_run (oOf m) (mOf m) (lOf m) κ c (insOf m c) rfl rfl rfl g)
  isplitr [HQ Hp]
  · isplitl [Hop Ho Hm HO]
    · iapply (start_intro (oOf m) (mOf m) (lOf m) κ c fo fm)
      isplitl [Hop]; · iexact Hop
      isplitl [HO]; · iexact HO
      isplitl [Ho] <;> iassumption
    isplitl [Hx]; · iexact Hx
    isplitl [Hq]; · iexact Hq
    isplitl [Hw]; · iexact Hw
    isplitl [Hk]; · iexact Hk
    isplitl [Hv]; · iexact Hv
    iexact Hg
  unfold endB
  iintro ⟨⟨HO, HaB, Hpos, Ho, Hm⟩, Hst⟩
  imod (close_bar (oOf m) (mOf m) (lOf m) κ c) $$ [HaB] with HzB
  · isplitr; · iexact HR
    iexact HaB
  imod (close_cells (oOf m) (mOf m) (lOf m) κ c) $$ [Hpos] with Hz
  · isplitr; · iexact HR
    iexact Hpos
  imodintro
  iapply HQ
  isplitr [HO Hst]
  · unfold heldAfter spare
    isplitl [HzB]; · iexact HzB
    isplitl [Hz]; · iexact Hz
    isplitl [Ho Hm]
    · isplitl [Ho]; · iexists _; iexact Ho
      iexists _; iexact Hm
    iexact Hp
  isplitl [HO]; · iexact HO
  iexact Hst

/-- The body from what the device holds before to what it holds after, its staged blocks kept and its result staged. -/
theorem body_main (c : Dev nD) (g : S1x256x1024.Idx → Elt F .f32) (Q : PUnit → sProp 𝕄) :
    iprop((heldBefore m c ∗ ow c (oweL c) ∗ sP c cc0_stg0_0 (insOf m c).x ∗ sP c cc0_stg1_0 (insOf m c).wq ∗ sP c cc0_stg2_0 (insOf m c).wo
        ∗ sP c cc0_stg3_0 (insOf m c).k ∗ sP c cc0_stg4_0 (insOf m c).v ∗ sP c cc0_stg5_0 g)
      ∗ ((heldAfter c ∗ ow c [] ∗ sP c cc0_stg0_0 (insOf m c).x ∗ sP c cc0_stg1_0 (insOf m c).wq ∗ sP c cc0_stg2_0 (insOf m c).wo
        ∗ sP c cc0_stg3_0 (insOf m c).k ∗ sP c cc0_stg4_0 (insOf m c).v ∗ sP c cc0_stg5_0 (resOf m c)) -∗ Q ⟨⟩))
      ⊢ WP c (bodyAt0 (F := F) t0_0) Q :=
  (body_closed m c g Q).trans (wp_fupd _ _ _ _ _)

/-- The launch debts, written out. -/
theorem ow_eq (c : Dev nD) : (ow c (oweL c) : sProp 𝕄) = iprop(∃ W, owes (c : Thread nD τ) (OL (oweL c)) W) := rfl
/-- No debts, written out. -/
theorem ow_nil (c : Dev nD) : (ow c [] : sProp 𝕄) = iprop(∃ W, owes (c : Thread nD τ) 0 W) := rfl

/-- Holding a whole buffer's memref at `X` gives the buffer at `X`. -/
theorem owns_in (c : Dev nD) (b : Ref sig .tc) (X : b.ty.shape.Idx → Elt F b.ty.elt) :
    (owns (c : Thread nD τ) (Memref.whole b) fullShare X : sProp 𝕄) ⊢ (((c : Thread nD τ).loc b) ↦{fullShare} X) := by
  rw [owns_whole]
  iintro ⟨%f, %hf, H⟩
  subst hf; iexact H
/-- And back. -/
theorem owns_out (c : Dev nD) (b : Ref sig .tc) (X : b.ty.shape.Idx → Elt F b.ty.elt) :
    ((((c : Thread nD τ).loc b) ↦{fullShare} X) : sProp 𝕄) ⊢ owns (c : Thread nD τ) (Memref.whole b) fullShare X := by
  rw [owns_whole]
  iintro H
  iexists X
  isplitr; · ipureintro; rfl
  iexact H

/-- The body meets what the pipeline asks of its one step. -/
theorem body_obligation (c : Dev nD) : BodyObligation (dat m c) (defs₀ (F := F)) 𝒱₀ () Set.univ := fun t => by
  obtain rfl := fin_N0 t
  rw [bigSep_W0, bigSep_W0]
  show iprop(heldBefore m c ∗ (dat m c).owesAt () t0_0.castSucc ∗ (∃ d, owns (c : Thread nD τ) (Memref.whole cc0_stg0_0) fullShare ((dat m c).before 0 t0_0 d)) ∗ (∃ d, owns (c : Thread nD τ) (Memref.whole cc0_stg1_0) fullShare ((dat m c).before 1 t0_0 d)) ∗ (∃ d, owns (c : Thread nD τ) (Memref.whole cc0_stg2_0) fullShare ((dat m c).before 2 t0_0 d)) ∗ (∃ d, owns (c : Thread nD τ) (Memref.whole cc0_stg3_0) fullShare ((dat m c).before 3 t0_0 d)) ∗ (∃ d, owns (c : Thread nD τ) (Memref.whole cc0_stg4_0) fullShare ((dat m c).before 4 t0_0 d)) ∗ (∃ d, owns (c : Thread nD τ) (Memref.whole cc0_stg5_0) fullShare ((dat m c).before 5 t0_0 d)))
    ⊢ WP c (bodyAt0 (F := F) t0_0) (fun _ => iprop(heldAfter c ∗ (dat m c).owesAt () t0_0.succ ∗ owns (c : Thread nD τ) (Memref.whole cc0_stg0_0) fullShare (insOf m c).x ∗ owns (c : Thread nD τ) (Memref.whole cc0_stg1_0) fullShare (insOf m c).wq ∗ owns (c : Thread nD τ) (Memref.whole cc0_stg2_0) fullShare (insOf m c).wo ∗ owns (c : Thread nD τ) (Memref.whole cc0_stg3_0) fullShare (insOf m c).k ∗ owns (c : Thread nD τ) (Memref.whole cc0_stg4_0) fullShare (insOf m c).v ∗ owns (c : Thread nD τ) (Memref.whole cc0_stg5_0) fullShare (resOf m c)))
  simp only [before_0, before_1, before_2, before_3, before_4]
  iintro ⟨HΦ, HO, ⟨%d0, H0⟩, ⟨%d1, H1⟩, ⟨%d2, H2⟩, ⟨%d3, H3⟩, ⟨%d4, H4⟩, ⟨%d5, H5⟩⟩
  ihave HO := (owes_out (dat m c) _ _ (owed_first m c)) $$ HO
  ihave H0 := (owns_in c cc0_stg0_0 (insOf m c).x) $$ H0
  ihave H1 := (owns_in c cc0_stg1_0 (insOf m c).wq) $$ H1
  ihave H2 := (owns_in c cc0_stg2_0 (insOf m c).wo) $$ H2
  ihave H3 := (owns_in c cc0_stg3_0 (insOf m c).k) $$ H3
  ihave H4 := (owns_in c cc0_stg4_0 (insOf m c).v) $$ H4
  ihave H5 := (owns_in c cc0_stg5_0 ((dat m c).before 5 t0_0 d5)) $$ H5
  iapply (body_main m c ((dat m c).before 5 t0_0 d5))
  rw [ow_eq, ow_nil]
  isplitl
  · isplitl [HΦ]; · iexact HΦ
    isplitl [HO]; · iexact HO
    isplitl [H0]; · iexact H0
    isplitl [H1]; · iexact H1
    isplitl [H2]; · iexact H2
    isplitl [H3]; · iexact H3
    isplitl [H4]; · iexact H4
    iexact H5
  iintro ⟨HΦ, HO, H0, H1, H2, H3, H4, H5⟩
  isplitl [HΦ]; · iexact HΦ
  isplitl [HO]; · iapply (owes_in (dat m c) _ 0 (owed_last m c) rfl); iexact HO
  isplitl [H0]; · iapply (owns_out c cc0_stg0_0 (insOf m c).x); iexact H0
  isplitl [H1]; · iapply (owns_out c cc0_stg1_0 (insOf m c).wq); iexact H1
  isplitl [H2]; · iapply (owns_out c cc0_stg2_0 (insOf m c).wo); iexact H2
  isplitl [H3]; · iapply (owns_out c cc0_stg3_0 (insOf m c).k); iexact H3
  isplitl [H4]; · iapply (owns_out c cc0_stg4_0 (insOf m c).v); iexact H4
  iapply (owns_out c cc0_stg5_0 (resOf m c)); iexact H5

end Cert.RingAttn
-- ==== Proof.Run.lean ====
/-
# The run of the program on the four devices

Every device reshapes its keys and values and enters the kernel; the run ends with the result on every device, the
arguments unchanged and every semaphore at zero.
-/
module

public import proofs.«01_k».proof.Proof.Launch
public import Idealize.ShloMosaic.Lib.Quiescent
public import Idealize.ShloMosaic.Lib.Pipeline.ValueKit

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (l : Loc nD τ sig) → Buf (Elt F) l) (ρ : Dev nD → PrngReg)

/-! ## The thread states -/

/-- A device's buffers at launch, after the host operations, and at the end. -/
def V₀ (c : Dev nD) : Valuation τ sig (Elt F) := fun b => m (c, b)
/-- After the host operations. -/
def V₁ (c : Dev nD) : Valuation τ sig (Elt F) := StableHlo.after hostOps0 (V₀ m c)
/-- At the end: the result array written. -/
def V₂ (c : Dev nD) : Valuation τ sig (Elt F) := Function.update (V₁ m c) (Proc.devRef .tc main_v3) (resOf m c)

/-- The program's arrays. -/
abbrev bufs : Finset (DevRef τ sig) := Pipeline.ucRefs τ sig
/-- Those that the kernel reads or writes. -/
abbrev arrs : Finset (DevRef τ sig) := Pipeline.arrRefs (τ := τ) spec0

/-- The kernel's arrays are among the program's. -/
theorem arrs_sub : arrs ⊆ bufs := Pipeline.arrRefs_sub_ucRefs spec0 (fun w => launch0.win.arr_unscoped w)

/-- What a device carries from launch to the kernel beside its buffers. -/
def Tk (c : Dev nD) : sProp 𝕄 := iprop(∃ κ, records (oOf m) (mOf m) (lOf m) κ ∗ linear c)
/-- The same with the register and the debts. -/
def R (c : Dev nD) : sProp 𝕄 := iprop(Tk m c ∗ (∃ r, prngReg c r) ∗ ∃ W, owes (c : Thread nD τ) (OL (oweL c)) W)

/-! ## The region -/

/-- The kernel starts with the launch debts. -/
theorem owed_zero (c : Dev nD) : (pdats m 0 c).owed 0 = 0 + OL (oweL c) := by rw [zero_add]; show (if (0 : Fin (cfg0.N + 1)).val = 0 then OL (oweL c) else 0) = _; exact if_pos rfl
/-- It ends with none. -/
theorem owed_end (c : Dev nD) : (pdats m 0 c).owed (Fin.last _) = 0 := by
  show (if (Fin.last cfg0.N).val = 0 then OL (oweL c) else 0) = 0
  rw [Fin.val_last, if_neg (by rw [show cfg0.N = 1 from N_0]; decide)]

/-- Every debt lies on a cell with a level above zero. -/
theorem cut (c : Dev nD) (t : Fin (cfg0.N + 1)) (g : GSem nD τ sig) (i : Unit) (h : 0 < (dat m c).owed t g i) : i ∈ Lt g ∧ 0 < lev g i := by
  have e : (dat m c).owed t = if t.val = 0 then OL (oweL c) else 0 := rfl
  rw [e] at h
  split at h
  · obtain ⟨p, hp, rfl⟩ := OL_pos h
    exact ⟨by unfold Lt; rw [if_pos (owe_tc c p hp)]; exact Finset.mem_singleton_self _, lev_owe_pos c p hp⟩
  · exact absurd h (Nat.lt_irrefl 0)

/-- Entering the kernel gives what the body wants. -/
theorem hin (c : Dev nD) : iprop(Pipeline.scopedRest (Pipeline.pin (pcfgs (F := F)) adm 0).spec c ∗ (∃ r, prngReg c r)
      ∗ StableHlo.held (c.tc : Thread nD τ) ∅ (V₁ m c) ∗ ∃ κ, opened (oOf m) (mOf m) (lOf m) κ c) ⊢ (pdats m 0 c).Φ 0 := by
  rw [show (pdats m 0 c).Φ 0 = heldBefore m c from by
      show (if (0 : Fin (cfg0.N + 1)).val = 0 then heldBefore m c else heldAfter c) = _; exact if_pos rfl,
    show (Pipeline.scopedRest (Pipeline.pin (pcfgs (F := F)) adm 0).spec c : sProp 𝕄) = _ from scopedRest0_eq c]
  unfold heldBefore spare
  iintro ⟨Hs, Hp, -, Ho⟩
  isplitl [Ho]; · iexact Ho
  isplitl [Hs]; · iexact Hs
  iexact Hp

/-- Leaving it gives back what the body holds. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
      ∗ Pipeline.ownSems0 osem c ∗ semVal (barCell c) 0) := by
  rw [show (pdats m 0 c).Φ (Fin.last _) = heldAfter c from by
      show (if (Fin.last cfg0.N).val = 0 then heldBefore m c else heldAfter c) = _
      rw [Fin.val_last, if_neg (by rw [show cfg0.N = 1 from N_0]; decide)],
    show (Pipeline.scopedRest (Pipeline.pin (pcfgs (F := F)) adm 0).spec c : sProp 𝕄) = _ from scopedRest0_eq c]
  unfold heldAfter spare StableHlo.held
  rw [bigSep_empty]
  iintro ⟨Hb, Hz, Hs, Hp⟩
  isplitl [Hs]; · iexact Hs
  isplitl [Hp]; · iexact Hp
  isplitr; · iempintro
  isplitl [Hz] <;> iassumption

/-- The launch facts of the one call. -/
theorem kit : Pipeline.PLaunchFacts (nD := nD) (τ := τ) (pcfgs (F := F)) 0 := launch0.toP

/-- Every array is held whole. -/
theorem share_eq (c : Dev nD) (w : Fin cfg0.W) : (dat m c).share w = fullShare := by unfold Dat.share; split <;> rfl

/-- The result array ends at what the devices computed. -/
theorem arr_out (c : Dev nD) : (dat m c).arrAt 5 cfg0.N = resOf m c := by
  refine (dat m c).arrAt_eq_of_after_last 5 t0_0 (by decide +kernel) _ fun j => ?_
  blk_simp
  rfl

/-- The kernel changes no array but the result. -/
theorem V₂_ne (c : Dev nD) (b : DevRef τ sig) (h : b ≠ Proc.devRef .tc main_v3) : V₂ m c b = V₁ m c b := Function.update_of_ne h _ _

/-- Each array of the kernel ends as the final valuation says. -/
theorem arr_end (c : Dev nD) (w : Fin cfg0.W) : (dat m c).arrAt w cfg0.N = V₂ m c (Proc.devRef .tc (Pipeline.arrRef spec0 w)) := match w with
  | 0 => ((dat m c).arrAt_in 0 rfl _).trans (V₂_ne m c (Proc.devRef .tc main_arg0) (by decide)).symm
  | 1 => ((dat m c).arrAt_in 1 rfl _).trans (V₂_ne m c (Proc.devRef .tc main_arg1) (by decide)).symm
  | 2 => ((dat m c).arrAt_in 2 rfl _).trans (V₂_ne m c (Proc.devRef .tc main_arg4) (by decide)).symm
  | 3 => ((dat m c).arrAt_in 3 rfl _).trans (V₂_ne m c (Proc.devRef .tc main_v1) (by decide)).symm
  | 4 => ((dat m c).arrAt_in 4 rfl _).trans (V₂_ne m c (Proc.devRef .tc main_v2) (by decide)).symm
  | 5 => (arr_out m c).trans (Function.update_self (Proc.devRef .tc main_v3) (resOf m c) (V₁ m c)).symm

/-- Staging copies lie at level zero. -/
theorem lev_staging (w : Fin cfg0.W) (s : Fin (cfg0.win w).nbuf) (c : Dev nD) : lev ((c : Thread nD τ), .dma ((cfg0.win w).sem s)) () ≤ 0 := by
  have h : ∀ w : Fin 6, ∀ s : Fin (win0 w).nbuf, lvD (((win0 w).sem s).val - 6) = 0 := by decide
  exact Nat.le_of_eq (h w s)

set_option backward.isDefEq.respectTransparency.types false in
/-- The kernel as a segment of the program. -/
def reg : Pipeline.RegionSeg (pcfgs (F := F)) adm (pdats m) () defs₀ 𝒱₀ Lt lev 0 :=
  Pipeline.RegionSeg.ofTalk (pcfgs (F := F)) adm (pdats m) () defs₀ 𝒱₀ Lt lev 0 osem (by decide : Pipeline.OwnSemFacts spec0 osem)
    ∅ (bufs \ arrs) (Finset.empty_subset _) kit rfl (fun c => (body_obligation m c).loose)
    (fun _ => 0) (fun c => OL (oweL c)) (owed_zero m) (owed_end m) (fun _ => rfl) (fun c w => share_eq m c w)
    (V₁ m) (V₂ m) (fun c b hb => by
      rw [Finset.sdiff_empty, Finset.mem_sdiff] at hb
      unfold V₂
      rw [Function.update_of_ne]
      rintro rfl
      exact hb.2 (by decide))
    (Tk m) (fun c => semVal (barCell c) 0) (fun c => iprop(∃ κ, opened (oOf m) (mOf m) (lOf m) κ c)) (fun c => semVal (barCell c) 0)
    (fun c => opens (oOf m) (mOf m) (lOf m) c) (hin m) (hout m)
    (fun c => by iintro H; imodintro; iexact H)
    (fun _ => 0)
    ⟨fun c w s => by rw [Lt_tc]; exact Finset.mem_singleton_self _, fun c w s => lev_staging w s c, fun c t g i h => cut m c t g i h⟩
    (fun _ => iprop(emp))
    (fun c w => rfl) (fun c w => arr_end m c w)

/-- Entering the kernel splits the windows' arrays off the other buffers. -/
theorem reg_pre (c : Dev nD) : iprop(StableHlo.held (c : Thread nD τ) bufs (V₁ m c) ∗ R m c) ⊢ (reg m).pre c := by
  show _ ⊢ iprop(StableHlo.held (c.tc : Thread nD τ) arrs (V₁ m c) ∗ (∃ r, prngReg c r)
    ∗ (StableHlo.held (c.tc : Thread nD τ) (bufs \ arrs) (V₁ m c) ∗ emp) ∗ Tk m c ∗ ∃ Wd, owes (c : Thread nD τ) (0 + OL (oweL c)) Wd)
  rw [zero_add, StableHlo.held_sub_split (c.tc : Thread nD τ) arrs_sub (V₁ m c)]
  unfold R
  iintro ⟨⟨Ha, Hr⟩, Hk, Hp, HO⟩
  isplitl [Ha]; · iexact Ha
  isplitl [Hp]; · iexact Hp
  isplitl [Hr]
  · isplitl [Hr]; · iexact Hr
    iempintro
  isplitl [Hk] <;> iassumption

/-- Leaving it joins them again. -/
theorem reg_post (c : Dev nD) : (reg m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) (bufs \ arrs) (V₂ m c) ∗ emp) ∗ semVal (barCell c) 0 ∗ ∃ Wd, owes (c : Thread nD τ) (0 : CellTallies nD τ sig Unit) Wd) ⊢ _
  rw [StableHlo.held_sub_split (c.tc : Thread nD τ) arrs_sub (V₂ m c)]
  iintro ⟨Ha, -, ⟨Hr, -⟩, Hb, HO⟩
  isplitr [HO]
  · isplitr [Hb]
    · isplitl [Ha] <;> iassumption
    · iexact Hb
  · iexact HO

/-- The two reshapes before the kernel. -/
def seg₀ : Pipeline.HostSeg (Ix := Unit) (Name := ℕ) (U := UU) (Lvl := ℕ) (pcfgs (F := F)) defs₀ 𝒱₀ Lt lev :=
  Pipeline.HostSeg.ofOps _ _ _ _ _ bufs hostOps0
    (fun op ho => Pipeline.sub_ucRefs op (List.forall_iff_forall_mem.mp hostOps0_sub op ho))
    (fun op ho => List.forall_iff_forall_mem.mp hostOps0_fresh op ho) (V₀ m) (R m)

/-- The program: the host operations, then the kernel. -/
def segs : List (Pipeline.Seg (pcfgs (F := F)) adm (pdats m) () defs₀ 𝒱₀ Lt lev) := [.host (seg₀ m), .region (reg m)]

/-! ## The launch -/

/-- The ghost state of the launch. -/
def u₀ : UU :=
  (initOf (Pipeline.cells (Pipeline.pin (pcfgs (F := F)) adm) cellOf_inj) (Pipeline.launchToks (Pipeline.pin (pcfgs (F := F)) adm) cellOf_inj),
    launchOf barCells scCells allToks)

/-- The protocol's part of it, kept by the first device until all is dealt. -/
abbrev seed : sProp 𝕄 := BI.own (ER (launchOf barCells scCells allToks))
/-- Who keeps it. -/
def G (c : Dev nD) : sProp 𝕄 := if c = 0 then seed else iprop(emp)

/-- All devices together keep it once. -/
theorem sum_G : bigSep Finset.univ (G (F := F)) = seed := by
  rw [bigSep_univ_at _ (0 : Dev nD), bigSep_congr (s := Finset.univ.erase (0 : Dev nD)) (Ψ := fun _ => (BI.emp : sProp 𝕄))
    (fun c hc => by unfold G; rw [if_neg (Finset.ne_of_mem_erase hc)]; rfl), BI.bigSep_emp_const]
  unfold G
  rw [if_pos rfl]
  exact BI.equiv_iff.mp sep_emp

/-- The barrier is the only semaphore that outlives a call. -/
theorem only_bar : ∀ sm : SemLoc sig, sm.isScoped .tc = false → sm = .reg barS := by decide

/-- A device's lasting semaphores are its barrier cell. -/
theorem unscopedSems0_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device starts with. -/
abbrev Tstart (c : Dev nD) : sProp 𝕄 := iprop(StableHlo.held (c : Thread nD τ) bufs (V₀ m c) ∗ R m c)
/-- What it ends with. -/
abbrev Tend (c : Dev nD) : sProp 𝕄 := iprop(StableHlo.held (c : Thread nD τ) bufs (V₂ m c) ∗ semVal (barCell c) 0)

/-- What a device has from the launch that is not the protocol's. -/
def plain (c : Dev nD) : sProp 𝕄 :=
  iprop(StableHlo.held (c : Thread nD τ) bufs (V₀ m c) ∗ credits c ∗ owes (c : Thread nD τ) (OL (oweL c)) ∅ ∗ ∃ r, prngReg c r)

/-- The protocol's part of what stays with one device. -/
def own (c : Dev nD) : sProp 𝕄 := iprop(atPos ER (barCell c) 0 ∅ 0 ∗ (bigSep Finset.univ fun k : Fin 14 => openTok ER (dCell c k)) ∗ paid c)

/-- Records, the protocol's part and the rest make up the start. -/
theorem Tstart_intro (κ : GSem nD τ sig → ℕ) (c : Dev nD) : iprop(records (oOf m) (mOf m) (lOf m) κ ∗ (own c ∗ plain m c)) ⊢ Tstart m c := by
  unfold own plain Tstart R Tk linear
  iintro ⟨#HR, ⟨Ha, Ho, Hd⟩, Hh, Hc, HO, Hp⟩
  isplitl [Hh]; · iexact Hh
  isplitl [Ha Ho Hd Hc]
  · iexists κ
    isplitr; · iexact HR
    isplitl [Ha]; · iexact Ha
    isplitl [Ho]; · iexact Ho
    isplitl [Hd] <;> iassumption
  isplitl [Hp]; · iexact Hp
  iexists ∅; iexact HO

/-- What the launch gives a device. -/
abbrev given (c : Dev nD) : sProp 𝕄 := iprop(unscopedBufs c (fun b => m ((c : Thread nD τ).loc b)) ∗ unscopedSems0 c
          ∗ owes (c : Thread nD τ) (OL (oweL c)) ∅ ∗ Pipeline.launchCred (fun d => OL (oweL d)) c ∗ prngReg c (ρ c) ∗ G c)

/-- It is the plain part, the barrier cell and the device's part of the ghost state. -/
theorem given_plain (c : Dev nD) : given m ρ c ⊢ iprop(plain m c ∗ semVal (barCell c) 0 ∗ G c) := by
  unfold given plain
  rw [show (unscopedBufs c (fun b => m ((c : Thread nD τ).loc b)) : sProp 𝕄) = StableHlo.held (c : Thread nD τ) bufs (V₀ m c) from
    Pipeline.unscopedBufs_held c (V₀ m c), unscopedSems0_bar]
  iintro ⟨Hh, Hs, HO, Hcr, Hp, HG⟩
  ihave Hc := (credits_intro (F := F) c) $$ Hcr
  isplitr [Hs HG]
  · isplitl [Hh]; · iexact Hh
    isplitl [Hc]; · iexact Hc
    isplitl [HO]; · iexact HO
    iexists (ρ c); iexact Hp
  isplitl [Hs] <;> iassumption

/-- A product over the barrier cells is one over the devices. -/
theorem sum_bar (Φ : GSem nD τ sig → sProp 𝕄) : bigSep barCells Φ = bigSep Finset.univ fun c : Dev nD => Φ (barCell c) := by
  unfold barCells; rw [bigSep_map]; rfl
/-- A product over the copies' cells is one over devices and semaphores. -/
theorem sum_sc (Φ : GSem nD τ sig → sProp 𝕄) : bigSep scCells Φ = bigSep Finset.univ fun c : Dev nD => bigSep Finset.univ fun k : Fin 14 => Φ (dCell c k) := by
  unfold scCells; rw [bigSep_map, bigSep_univ_prod]; rfl

/-- All invariants are made and everything is dealt. -/
theorem init : iprop((bigSep Finset.univ fun c : Dev nD => given m ρ c) ∗ levAts Lt lev)
    ⊢ (|={Set.univ}=> bigSep Finset.univ (Tstart m) : sProp 𝕄) := by
  have h : (bigSep Finset.univ fun c : Dev nD => given m ρ c)
      ⊢ iprop((bigSep Finset.univ fun c : Dev nD => plain m c) ∗ bigSep barCells (fun g => (semVal g 0 : sProp 𝕄)) ∗ seed) := by
    rw [sum_bar, ← sum_G, ← bigSep_sep', ← bigSep_sep']
    exact bigSep_mono fun c _ => given_plain m ρ c
  have hown : iprop(bigSep barCells (fun g => (atPos ER g 0 ∅ 0 : sProp 𝕄)) ∗ bigSep scCells (fun g => (openTok ER g : sProp 𝕄))
        ∗ bigSep allToks (fun x => (dutyTok ER x.1 x.2.1 x.2.2 : sProp 𝕄))) ⊢ bigSep Finset.univ fun c : Dev nD => own c := by
    unfold own
    rw [sum_bar, sum_sc, toks_mint, bigSep_sep', bigSep_sep']
    exact sep_mono_right (sep_mono_right deal)
  iintro ⟨H, -⟩
  ihave H := h $$ H
  icases H with ⟨HP, Hv, Hu⟩
  imod (Rounds.fund_launch ER (sch (oOf m) (mOf m) (lOf m)) disjoint_cells (fun g _ h => h) allToks) $$ [Hv Hu] with ⟨%κ, -, #Hinv, #Hr, Hat, Hopen, Htok⟩
  · isplitl [Hv] <;> iassumption
  imodintro
  iapply (bigSep_with_persistent (R := records (oOf m) (mOf m) (lOf m) κ) (Φ := fun c => iprop(own c ∗ plain m c)) fun c _ => Tstart_intro m κ c)
  isplitr
  · unfold records
    isplitr; · iexact Hinv
    iexact Hr
  rw [bigSep_sep']
  isplitr [HP]
  · iapply hown
    isplitl [Hat]; · iexact Hat
    isplitl [Hopen] <;> iassumption
  · iexact HP

/-- One whole buffer of a device. -/
abbrev pt (c : Dev nD) (b : Ref sig .tc) (x : b.ty.Contents (Elt F)) : sProp 𝕄 := (Memref.whole b).view.loc (c : Thread nD τ) ↦{fullShare} x

/-- All buffers outside the kernel's scope, one by one. -/
theorem bufs_list (c : Dev nD) (W : Valuation τ sig (Elt F)) : (StableHlo.held (c : Thread nD τ) bufs W : sProp 𝕄)
    = iprop(pt c main_arg0 (W main_arg0) ∗ pt c main_arg1 (W main_arg1) ∗ pt c main_arg2 (W main_arg2) ∗ pt c main_arg3 (W main_arg3)
      ∗ pt c main_arg4 (W main_arg4) ∗ pt c main_v1 (W main_v1) ∗ pt c main_v2 (W main_v2) ∗ pt c main_v3 (W main_v3)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide) (by decide)]
  rfl

set_option backward.isDefEq.respectTransparency.types false in
/-- The run: it ends on every device, with the arguments unchanged, the result in place and no semaphore raised. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v3) = resOf m c) ∧ r.2.sem = fun _ => 0) :=
  Pipeline.θ_run_regions_kit_sems (pcfgs (F := F)) adm (pdats m) () cellOf_inj EP defs₀ 𝒱₀ Lt lev m ρ main (segs m)
    (fun c Q => by rw [main_segs adm (pdats m) () 𝒱₀ Lt lev (seg₀ m) (reg m) rfl c]; rfl)
    (by simp only [segs, Pipeline.Seg.pipes_host, Pipeline.Seg.pipes_region, Pipeline.Seg.pipes_nil]; decide)
    (O₀ := fun c => OL (oweL c)) (hL := Lt_of_ne) (G := G) (u₀ := u₀)
    (hu₀ := by
      unfold u₀
      iintro Hu
      ihave H := (ownU_pair _ _) $$ Hu
      icases H with ⟨HP, HX⟩
      imodintro
      isplitl [HP]; · iexact HP
      rw [sum_G]; iexact HX)
    (T₀ := Tstart m) (Tₙ := Tend m)
    (hch := ⟨fun c => .rfl, fun c => reg_pre m c, fun c => reg_post m c⟩)
    (hinit := init m ρ)
    (QY := fun c s => (s.mem ((c : Thread nD τ).loc main_arg0) = V₂ m c (Proc.devRef .tc main_arg0)
      ∧ s.mem ((c : Thread nD τ).loc main_arg1) = V₂ m c (Proc.devRef .tc main_arg1)
      ∧ s.mem ((c : Thread nD τ).loc main_arg2) = V₂ m c (Proc.devRef .tc main_arg2)
      ∧ s.mem ((c : Thread nD τ).loc main_arg3) = V₂ m c (Proc.devRef .tc main_arg3)
      ∧ s.mem ((c : Thread nD τ).loc main_arg4) = V₂ m c (Proc.devRef .tc main_arg4)
      ∧ s.mem ((c : Thread nD τ).loc main_v3) = V₂ m c (Proc.devRef .tc main_v3))
      ∧ s.sem (barCell c) = 0)
    (hfin := fun c s' => by
      dsimp only [Tend]; rw [bufs_list]
      iintro ⟨⟨⟨H0, H1, H2, H3, H4, -, -, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        exact ⟨⟨h0.trans ((V₂_ne m c _ (by decide)).trans (V_main_arg0 m c)), h1.trans ((V₂_ne m c _ (by decide)).trans (V_main_arg1 m c)),
          h2.trans ((V₂_ne m c _ (by decide)).trans (V_main_arg2 m c)), h3.trans ((V₂_ne m c _ (by decide)).trans (V_main_arg3 m c)),
          h4.trans ((V₂_ne m c _ (by decide)).trans (V_main_arg4 m c))⟩, h5.trans (Function.update_self _ _ _)⟩,
      sem_eq_zero hs fun c sm hsm => by
        obtain rfl := only_bar sm hsm
        exact (h c).2⟩)

end Cert.RingAttn
-- ==== Proof.Frames.lean ====
/-
# The frames

Every program ends, with its arguments unchanged and no semaphore raised.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.RingAttn

open Idealize.ShloMosaic Idealize.SL.Sem

/-- The frame at any instance of the floats. -/
theorem frame_any {F : FTy → Type} [FloatOps F] (m : (l : Loc Cert.KernelIdeal.nD Cert.KernelIdeal.τ Cert.KernelIdeal.sig) → Buf (Elt F) l)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run (Cert.KernelIdeal.defs (F := F)) _ _).mono (fun _ h => ⟨fun c => (h.1 c).1, h.2⟩) (run_main m ρ)

/-- The idealized kernel ends, leaves its arguments as they were and all semaphores at zero. -/
theorem frame_ideal : Cert.quiescent_KernelIdeal := fun m ρ _ => frame_any m ρ

/-- The kernel as printed has the body of the idealized one. -/
theorem defs_same {F : FTy → Type} [FloatOps F] :
    (@Cert.Kernel.defs₀ F _ Cert.Kernel.Gen.facts : Defs Cert.KernelIdeal.nD Cert.KernelIdeal.τ Cert.KernelIdeal.sig (Elt F) Cert.KernelIdeal.Λ₀)
      = @Cert.KernelIdeal.defs₀ F _ Cert.KernelIdeal.Gen.facts := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l x
  match l, x with
  | 0, (t, s) => rfl

/-- So its frame is the same run, read at machine floats. -/
theorem frame_bits : Cert.quiescent_Kernel := fun m ρ _ => by
  have h := frame_any (F := Bits) m ρ
  unfold Cert.KernelIdeal.defs at h
  rw [← defs_same] at h
  exact h

/-- So does the reference. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

end Cert.RingAttn
-- ==== Proof.HeadOps.lean ====
/-
# The kernel's values head by head

The body computes the same operations for each of the eight heads, with the head's slices. This module writes those operations
once, with the head as a variable, and states that the values the body names are these operations at its eight heads.
-/
module

public import proofs.«01_k».proof.Proof.Vals

@[expose] public section

noncomputable section

namespace Cert.RingAttn

open Cert.KernelIdeal Cert.KernelIdeal.Gen

open Idealize.ShloMosaic

variable {F : FTy → Type} [FloatOps F]

/-- A head's 128 columns lie among the 1024. -/
theorem slice_head (h : Fin 8) : S256x1024.Slices ![0, 128 * (h : ℕ)] S256x128 := by
  revert h; decide
/-- A head's column lies among the eight. -/
theorem slice_col (h : Fin 8) : S256x8.Slices ![0, (h : ℕ)] S256x1 := by
  revert h; decide

/-- The scaled scores of a head's queries against a block of keys. -/
def score (q : FVec F S256x128 .bf16) (k : FVec F S4096x128 .bf16) : FVec F S256x4096 .f32 :=
  mulf (matmul dot_S256x128_S4096x128_S256x4096_1_1_0_0_n_n none q k (constant S256x4096 .f32 0x00000000#32))
    (broadcast S256x4096 (Scalar.ofBits .f32 0x3DB504F3#32))
/-- The largest score of each row. -/
def rowMax (s : FVec F S256x4096 .f32) : FVec F S256x1 .f32 :=
  shapeCast S256x1 (multiReduction .maximumf [1] S256 s 0xFF800000#32 reduces_S256x4096_S256 (.inl rfl) rfl) shapeCasts_S256_S256x1
/-- The weights: the exponential of each score less its row's largest. -/
def weight (s : FVec F S256x4096 .f32) : FVec F S256x4096 .f32 :=
  exp (subf s (broadcastTo S256x4096 (rowMax s) broadcasts_S256x1_S256x4096))
/-- The sum of each row's weights. -/
def rowSum (s : FVec F S256x4096 .f32) : FVec F S256x1 .f32 :=
  shapeCast S256x1 (multiReduction .add [1] S256 (weight s) 0x00000000#32 reduces_S256x4096_S256 (.inl rfl) rfl) shapeCasts_S256_S256x1
/-- The weights against the values. -/
def rowVal (s : FVec F S256x4096 .f32) (v : FVec F S4096x128 .bf16) : FVec F S256x128 .f32 :=
  matmul dot_S256x4096_S4096x128_S256x128_1_0_0_1_n_n none (truncf .bf16 (weight s) bitsLt_bf16_f32) v (constant S256x128 .f32 0x00000000#32)

/-- The keys a head reads: heads 0 to 3 the first half of the columns, heads 4 to 7 the second. -/
def keysOf (I : Ins F) (h : Fin 8) : FVec F S4096x128 .bf16 := if (h : ℕ) < 4 then V38 I else V94 I
/-- The values a head reads. -/
def valsOf (I : Ins F) (h : Fin 8) : FVec F S4096x128 .bf16 := if (h : ℕ) < 4 then V40 I else V96 I
/-- The scores of head `h`. -/
def scoreOf (I : Ins F) (h : Fin 8) : FVec F S256x4096 .f32 :=
  score (extractStridedSlice S256x128 ![0, 128 * (h : ℕ)] (V36 I) (slice_head h)) (keysOf I h)
/-- The own weighted values of head `h`. -/
def O0 (I : Ins F) (h : Fin 8) : FVec F S256x128 .f32 := rowVal (scoreOf I h) (valsOf I h)

/-- One combining step of head `h`: the accumulator `o` times its factor plus the received `x` times its own factor. -/
def blendO (o : FVec F S256x128 .f32) (a r : FVec F S256x8 .f32) (x : FVec F S256x1024 .f32) (h : Fin 8) : FVec F S256x128 .f32 :=
  addf (mulf o (broadcastTo S256x128 (extractStridedSlice S256x1 ![0, (h : ℕ)] a (slice_col h)) broadcasts_S256x1_S256x128))
    (mulf (extractStridedSlice S256x128 ![0, 128 * (h : ℕ)] x (slice_head h))
      (broadcastTo S256x128 (extractStridedSlice S256x1 ![0, (h : ℕ)] r (slice_col h)) broadcasts_S256x1_S256x128))

/-- The factor of a level against the larger of two. -/
def factor (m n : FVec F S256x8 .f32) : FVec F S256x8 .f32 := exp (subf m n)
/-- One combining step of the sums. -/
def blendL (l a lr r : FVec F S256x8 .f32) : FVec F S256x8 .f32 := addf (mulf l a) (mulf lr r)
/-- Received levels or sums, without the leading axis. -/
def flat8 (x : Vec F S1x256x8 .f32) : FVec F S256x8 .f32 := shapeCast S256x8 x shapeCasts_S1x256x8_S256x8
/-- Received weighted values, without the leading axis and widened. -/
def flat1024 (x : Vec F S1x256x1024 .bf16) : FVec F S256x1024 .f32 :=
  extf .f32 (shapeCast S256x1024 x shapeCasts_S1x256x1024_S256x1024) bitsLt_bf16_f32

/-- The weighted values of head `h` after one, two and three combining steps. -/
def O1 (I : Ins F) (G : Got F) (h : Fin 8) : FVec F S256x128 .f32 :=
  blendO (O0 I h) (factor (V149 I) (V268 I G)) (factor (flat8 G.m1) (V268 I G)) (flat1024 G.o1) h
/-- After two steps. -/
def O2 (I : Ins F) (G : Got F) (h : Fin 8) : FVec F S256x128 .f32 :=
  blendO (O1 I G h) (factor (V268 I G) (V347 I G)) (factor (flat8 G.m2) (V347 I G)) (flat1024 G.o2) h
/-- The levels after the third step. -/
def M3 (I : Ins F) (G : Got F) : FVec F S256x8 .f32 := maximumf (V347 I G) (flat8 G.m3)
/-- After three steps. -/
def O3 (I : Ins F) (G : Got F) (h : Fin 8) : FVec F S256x128 .f32 :=
  blendO (O2 I G h) (factor (V347 I G) (M3 I G)) (factor (flat8 G.m3) (M3 I G)) (flat1024 G.o3) h
/-- Head `h` of the attention's result. -/
def quot (I : Ins F) (G : Got F) (h : Fin 8) : FVec F S256x128 .f32 :=
  divf (O3 I G h) (broadcastTo S256x128 (extractStridedSlice S256x1 ![0, (h : ℕ)] (V457 I G) (slice_col h)) broadcasts_S256x1_S256x128)

/-- Eight columns side by side. -/
def cat8 (f : Fin 8 → FVec F S256x1 .f32) : FVec F S256x8 .f32 :=
  concatenate S256x8 1 (List.ofFn fun h : Fin 8 => (⟨S256x1, f h⟩ : (s : Shape) × (s.Idx → F .f32)))
    concatenates_S256x1_S256x1_S256x1_S256x1_S256x1_S256x1_S256x1_S256x1_S256x8_d1
/-- Eight heads side by side. -/
def cat1024 (f : Fin 8 → FVec F S256x128 .f32) : FVec F S256x1024 .f32 :=
  concatenate S256x1024 1 (List.ofFn fun h : Fin 8 => (⟨S256x128, f h⟩ : (s : Shape) × (s.Idx → F .f32)))
    concatenates_S256x128_S256x128_S256x128_S256x128_S256x128_S256x128_S256x128_S256x128_S256x1024_d1

set_option maxRecDepth 65536

/-- The own levels are the heads' row maxima side by side. -/
theorem V149_eq (I : Ins F) : V149 I = cat8 fun h => rowMax (scoreOf I h) := rfl
/-- The own sums are the heads' row sums side by side. -/
theorem V150_eq (I : Ins F) : V150 I = cat8 fun h => rowSum (scoreOf I h) := rfl
/-- The own weighted values are the heads' side by side. -/
theorem V152_eq (I : Ins F) : V152 I = truncf .bf16 (cat1024 (O0 I)) bitsLt_bf16_f32 := rfl
/-- The levels and the sums after each step. -/
theorem V268_eq (I : Ins F) (G : Got F) : V268 I G = maximumf (V149 I) (flat8 G.m1) := rfl
/-- The levels after the second step. -/
theorem V347_eq (I : Ins F) (G : Got F) : V347 I G = maximumf (V268 I G) (flat8 G.m2) := rfl
/-- The sums after the first step. -/
theorem V275_eq (I : Ins F) (G : Got F) :
    V275 I G = blendL (V150 I) (factor (V149 I) (V268 I G)) (flat8 G.l1) (factor (flat8 G.m1) (V268 I G)) := rfl
/-- The sums after the second step. -/
theorem V354_eq (I : Ins F) (G : Got F) :
    V354 I G = blendL (V275 I G) (factor (V268 I G) (V347 I G)) (flat8 G.l2) (factor (flat8 G.m2) (V347 I G)) := rfl
/-- The sums after the third step. -/
theorem V457_eq (I : Ins F) (G : Got F) :
    V457 I G = blendL (V354 I G) (factor (V347 I G) (M3 I G)) (flat8 G.l3) (factor (flat8 G.m3) (M3 I G)) := rfl

/-- The device's result: the eight heads side by side against the output projection. -/
theorem outV_eq (I : Ins F) (G : Got F) :
    outV I G = shapeCast S1x256x1024 (matmul dot_S256x1024_S1024x1024_S256x1024_1_0_0_1_n_n none
      (truncf .bf16 (cat1024 (quot I G)) bitsLt_bf16_f32) (shapeCast S1024x1024 I.wo shapeCasts_S1024x1024_S1024x1024)
      (constant S256x1024 .f32 0x00000000#32)) shapeCasts_S256x1024_S1x256x1024 := rfl

end Cert.RingAttn

end
-- ==== Proof.Softmax.lean ====
/-
# Partial softmax sums over the extended reals

A row of scores is met in blocks. For a block of scores `s` with values `v` and a level `M`, the partial sum is the sum of
`exp (s j - M) * v j` over the block. Raising the level from `M` to `M'` multiplies the partial sum by `exp (M - M')`, whatever the
scores are, infinite ones included: this is what makes combining the blocks one after another the same as one sum over the whole
row. No score or value needs to be finite.
-/
module

public import Idealize.ShloMosaic.PureOps.Ideal.Laws

@[expose] public section

noncomputable section

namespace Cert.RingAttn

open Idealize.ShloMosaic

/-- The scale of the scores. -/
def scale : EReal := Scalar.ofBits (F := Ideal) .f32 0x3DB504F3#32

/-- The word the maximum starts from is the least extended real. -/
theorem negInf : (FloatOps.ofBits (F := Ideal) .f32 0xFF800000#32 : EReal) = ⊥ := by
  show Ideal.ofBits .f32 0xFF800000#32 = ⊥
  simp [Ideal.ofBits, Ideal.ieee]

/-- The exponential is nonnegative. -/
theorem exp_nonneg (x : EReal) : 0 ≤ Ideal.exp x := by
  induction x with
  | bot => exact le_refl _
  | top => exact le_top
  | coe r => exact EReal.coe_nonneg.mpr (Real.exp_pos r).le

/-- The exponential of a difference with the larger level subtracted is not infinite. -/
theorem exp_sub_ne_top {M M' : EReal} (h : M ≤ M') : Ideal.exp (M - M') ≠ ⊤ := by
  induction M with
  | bot => rw [EReal.bot_sub]; exact EReal.zero_ne_top
  | top => rw [top_le_iff.mp h, EReal.sub_top]; exact EReal.zero_ne_top
  | coe r =>
    induction M' with
    | bot => exact absurd (le_bot_iff.mp h) (EReal.coe_ne_bot r)
    | top => rw [EReal.sub_top]; exact EReal.zero_ne_top
    | coe r' => rw [← EReal.coe_sub]; exact EReal.coe_ne_top _

/-- Lowering a score by one level and then by the difference of the levels is lowering it by the second level. -/
theorem exp_sub_mul {s M M' : EReal} (hs : s ≤ M) (h : M ≤ M') :
    Ideal.exp (s - M) * Ideal.exp (M - M') = Ideal.exp (s - M') := by
  have e0 : Ideal.exp ⊥ = 0 := rfl
  induction M' with
  | top => rw [EReal.sub_top, EReal.sub_top, e0, mul_zero]
  | bot =>
    rw [le_bot_iff.mp h] at hs ⊢
    rw [le_bot_iff.mp hs, EReal.bot_sub, e0, zero_mul]
  | coe r' =>
    induction M with
    | top => exact absurd (top_le_iff.mp h) (EReal.coe_ne_top _)
    | bot => rw [le_bot_iff.mp hs, EReal.bot_sub, EReal.bot_sub, e0, zero_mul]
    | coe r =>
      induction s with
      | top => exact absurd (top_le_iff.mp hs) (EReal.coe_ne_top _)
      | bot => rw [EReal.bot_sub, EReal.bot_sub, e0, zero_mul]
      | coe t =>
        rw [← EReal.coe_sub, ← EReal.coe_sub, ← EReal.coe_sub]
        show ((Real.exp (t - r) : ℝ) : EReal) * ((Real.exp (r - r') : ℝ) : EReal) = ((Real.exp (t - r') : ℝ) : EReal)
        rw [← EReal.coe_mul, ← Real.exp_add]
        congr 2; ring

/-- Multiplying by a nonnegative number that is not infinite distributes over a sum. -/
theorem sum_mul_of_nonneg {ι : Type} (S : Finset ι) (f : ι → EReal) {c : EReal} (h0 : 0 ≤ c) (ht : c ≠ ⊤) :
    (∑ j ∈ S, f j) * c = ∑ j ∈ S, f j * c := by
  classical
  induction S using Finset.induction_on with
  | empty => rw [Finset.sum_empty, Finset.sum_empty, zero_mul]
  | insert a S ha ih =>
    rw [Finset.sum_insert ha, Finset.sum_insert ha, EReal.right_distrib_of_nonneg_of_ne_top h0 ht, ih]

/-- The partial sum of a block of scores `s` and values `v` at the level `M`. -/
def part {n : ℕ} (s v : Fin n → EReal) (M : EReal) : EReal := ∑ j, Ideal.exp (s j - M) * v j

/-- The partial sum of the weights alone. -/
def mass {n : ℕ} (s : Fin n → EReal) (M : EReal) : EReal := ∑ j, Ideal.exp (s j - M)

/-- The largest score of a block. -/
def top {n : ℕ} (s : Fin n → EReal) : EReal := Finset.univ.fold max ⊥ s

/-- Every score is at most the largest one. -/
theorem le_top' {n : ℕ} (s : Fin n → EReal) (j : Fin n) : s j ≤ top s :=
  Finset.le_fold_max _ |>.mpr (.inr ⟨j, Finset.mem_univ j, le_refl _⟩)

/-- Raising the level of a partial sum is multiplying it by the exponential of the difference. -/
theorem part_raise {n : ℕ} (s v : Fin n → EReal) {M M' : EReal} (hs : ∀ j, s j ≤ M) (h : M ≤ M') :
    part s v M * Ideal.exp (M - M') = part s v M' := by
  unfold part
  rw [sum_mul_of_nonneg _ _ (exp_nonneg _) (exp_sub_ne_top h)]
  refine Finset.sum_congr rfl fun j _ => ?_
  rw [mul_assoc, mul_comm (v j), ← mul_assoc, exp_sub_mul (hs j) h]

/-- The mass is the partial sum of ones. -/
theorem mass_eq {n : ℕ} (s : Fin n → EReal) (M : EReal) : mass s M = part s (fun _ => 1) M :=
  Finset.sum_congr rfl fun _ _ => (mul_one _).symm

/-- A number at a level that rescales like a partial sum when the level rises. -/
def Rises (W : EReal → EReal) (M : EReal) : Prop := ∀ M', M ≤ M' → W M * Ideal.exp (M - M') = W M'

/-- A partial sum rescales from the largest score on. -/
theorem rises_part {n : ℕ} (s v : Fin n → EReal) : Rises (part s v) (top s) :=
  fun _ h => part_raise s v (le_top' s) h

/-- So does the mass. -/
theorem rises_mass {n : ℕ} (s : Fin n → EReal) : Rises (mass s) (top s) := by
  rw [show mass s = part s (fun _ => 1) from funext (mass_eq s)]
  exact rises_part s _

/-- One combining step: two numbers, each at its own level, are brought to the larger level and added; the sum rescales from
    there on. -/
theorem Rises.combine {W W' : EReal → EReal} {M M' : EReal} (h : Rises W M) (h' : Rises W' M') :
    W M * Ideal.exp (M - max M M') + W' M' * Ideal.exp (M' - max M M') = W (max M M') + W' (max M M')
      ∧ Rises (fun x => W x + W' x) (max M M') := by
  refine ⟨by rw [h _ (le_max_left _ _), h' _ (le_max_right _ _)], fun N hN => ?_⟩
  show (W (max M M') + W' (max M M')) * Ideal.exp (max M M' - N) = W N + W' N
  rw [EReal.right_distrib_of_nonneg_of_ne_top (exp_nonneg _) (exp_sub_ne_top hN)]
  rw [← h _ (le_max_left M M'), ← h' _ (le_max_right M M')]
  rw [mul_assoc, mul_assoc, exp_sub_mul (le_max_left _ _) hN, exp_sub_mul (le_max_right _ _) hN,
    h N ((le_max_left _ _).trans hN), h' N ((le_max_right _ _).trans hN)]

/-- Two numbers brought from their levels to the larger level, and added. -/
def blend (x M y N : EReal) : EReal := x * Ideal.exp (M - max M N) + y * Ideal.exp (N - max M N)

/-- The largest of four levels, in the order the combining steps take them. -/
def top4 (M : Fin 4 → EReal) : EReal := max (max (max (M 0) (M 1)) (M 2)) (M 3)

/-- Three combining steps of four numbers, each at its own level. -/
def blend4 (x M : Fin 4 → EReal) : EReal :=
  blend (blend (blend (x 0) (M 0) (x 1) (M 1)) (max (M 0) (M 1)) (x 2) (M 2)) (max (max (M 0) (M 1)) (M 2)) (x 3) (M 3)

/-- Three combining steps of four numbers that rescale are their sum at the largest level. -/
theorem blend4_eq (W : Fin 4 → EReal → EReal) (M : Fin 4 → EReal) (h : ∀ p, Rises (W p) (M p)) :
    blend4 (fun p => W p (M p)) M = ∑ p, W p (top4 M) := by
  have h1 := (h 0).combine (h 1)
  have h2 := h1.2.combine (h 2)
  have h3 := h2.2.combine (h 3)
  have e1 : blend (W 0 (M 0)) (M 0) (W 1 (M 1)) (M 1) = _ := h1.1
  have e2 : blend (W 0 (max (M 0) (M 1)) + W 1 (max (M 0) (M 1))) (max (M 0) (M 1)) (W 2 (M 2)) (M 2) = _ := h2.1
  unfold blend4
  rw [e1, e2, Fin.sum_univ_four]
  exact h3.1

/-! ## A row of 16384 keys in four blocks -/

/-- Block `p` of a row. -/
def blk (f : Fin 16384 → EReal) (p : Fin 4) (j : Fin 4096) : EReal := f ⟨p * 4096 + j, by omega⟩

/-- A sum over the row is the sum over the blocks. -/
theorem sum_blk (f : Fin 16384 → EReal) : ∑ g, f g = ∑ p, ∑ j, blk f p j := by
  rw [← Fintype.sum_prod_type']
  refine (Equiv.sum_comp (finProdFinEquiv (m := 4) (n := 4096)) f).symm.trans (Finset.sum_congr rfl fun x _ => ?_)
  refine congrArg f (Fin.ext ?_)
  show (x.2 : ℕ) + 4096 * x.1 = x.1 * 4096 + x.2
  omega

/-- The largest score is at most `b` exactly when every score is. -/
theorem top_le {n : ℕ} (s : Fin n → EReal) (b : EReal) : top s ≤ b ↔ ∀ j, s j ≤ b := by
  unfold top
  rw [Finset.fold_max_le]
  exact ⟨fun h j => h.2 j (Finset.mem_univ j), fun h => ⟨bot_le, fun j _ => h j⟩⟩

/-- The largest of four levels is at most `b` exactly when each of them is. -/
theorem top4_le (M : Fin 4 → EReal) (b : EReal) : top4 M ≤ b ↔ ∀ p, M p ≤ b := by
  unfold top4
  rw [max_le_iff, max_le_iff, max_le_iff, Fin.forall_fin_succ, Fin.forall_fin_succ, Fin.forall_fin_succ, Fin.forall_fin_one]
  exact ⟨fun h => ⟨h.1.1.1, h.1.1.2, h.1.2, h.2⟩, fun h => ⟨⟨⟨h.1, h.2.1⟩, h.2.2.1⟩, h.2.2.2⟩⟩

/-- The largest score of the row is the largest of the blocks' largest, in any order of the blocks. -/
theorem top4_blk (s : Fin 16384 → EReal) (σ : Fin 4 ≃ Fin 4) : (top4 fun p => top (blk s (σ p))) = top s := by
  refine eq_of_forall_ge_iff fun b => ?_
  rw [top4_le, top_le]
  simp only [top_le]
  constructor
  · intro h g
    have := h (σ.symm ⟨g / 4096, by omega⟩) ⟨g % 4096, by omega⟩
    rw [σ.apply_symm_apply] at this
    refine le_of_eq_of_le (congrArg s (Fin.ext ?_)) this
    show (g : ℕ) = g / 4096 * 4096 + g % 4096
    omega
  · exact fun h p j => h _

/-- The blocks' partial sums, in any order, add up to the row's. -/
theorem part_blk (s v : Fin 16384 → EReal) (σ : Fin 4 ≃ Fin 4) (M : EReal) :
    ∑ p, part (blk s (σ p)) (blk v (σ p)) M = part s v M := by
  rw [Equiv.sum_comp σ fun p => part (blk s p) (blk v p) M]
  exact (sum_blk fun g => Ideal.exp (s g - M) * v g).symm

/-- The blocks' masses, in any order, add up to the row's. -/
theorem mass_blk (s : Fin 16384 → EReal) (σ : Fin 4 ≃ Fin 4) (M : EReal) :
    ∑ p, mass (blk s (σ p)) M = mass s M := by
  rw [Equiv.sum_comp σ fun p => mass (blk s p) M]
  exact (sum_blk fun g => Ideal.exp (s g - M)).symm

end Cert.RingAttn

end
-- ==== Proof.HeadValue.lean ====
/-
# The kernel's values at an index, over the extended reals

Each of the operations the body does per head, read at an index: a score is a scaled sum of products, a level is the largest
score, a sum and a weighted value are partial softmax sums at that level.
-/
module

public import proofs.«01_k».proof.Proof.HeadOps
public import proofs.«01_k».proof.Proof.Softmax
public import Idealize.ShloMosaic.Lib.Pointwise
public import Idealize.ShloMosaic.Lib.Pipeline.Value

@[expose] public section

set_option maxRecDepth 16384

noncomputable section

namespace Cert.RingAttn

open Cert.KernelIdeal Cert.KernelIdeal.Gen

open Idealize.ShloMosaic

/-- A score is the scaled sum of products of the query's row and the key's. -/
theorem score_apply (q : FVec Ideal S256x128 .bf16) (k : FVec Ideal S4096x128 .bf16) (i : Fin 256) (j : Fin 4096) :
    score q k (ix2 i j) = (∑ d : Fin 128, q (ix2 i d) * k (ix2 j d) : EReal) * scale := by
  pointwise [score]
  rfl

/-- A row's level is its largest score. -/
theorem rowMax_apply (s : FVec Ideal S256x4096 .f32) (i : Fin 256) (z : Fin 1) :
    rowMax s (ix2 i z) = top fun j => s (ix2 i j) := by
  pointwise [rowMax]
  exact congrArg (fun b : EReal => Finset.fold max b (fun x => s (ix2 i x)) Finset.univ) negInf

/-- A row's sum is the mass of its scores at the level. -/
theorem rowSum_apply (s : FVec Ideal S256x4096 .f32) (i : Fin 256) (z : Fin 1) :
    rowSum s (ix2 i z) = mass (fun j => s (ix2 i j)) (top fun j => s (ix2 i j)) := by
  pointwise [rowSum, weight]
  rw [rowMax_apply]
  rfl

/-- A row's weighted values are the partial sums of its scores at the level. -/
theorem rowVal_apply (s : FVec Ideal S256x4096 .f32) (v : FVec Ideal S4096x128 .bf16) (i : Fin 256) (d : Fin 128) :
    rowVal s v (ix2 i d) = part (fun j => s (ix2 i j)) (fun j => v (ix2 j d)) (top fun j => s (ix2 i j)) := by
  pointwise [rowVal, weight]
  rw [rowMax_apply]
  rfl

/-- A head's column among the 1024. -/
def hcol (h : Fin 8) (d : Fin 128) : Fin 1024 := ⟨128 * h + d, by omega⟩
/-- A head's column among the 256 of the keys and values: four heads share one. -/
def kcol (h : Fin 8) (d : Fin 128) : Fin 256 := ⟨128 * (h / 4) + d, by omega⟩

/-- A combining step at an index. -/
theorem blendO_apply (o : FVec Ideal S256x128 .f32) (a r : FVec Ideal S256x8 .f32) (x : FVec Ideal S256x1024 .f32) (h : Fin 8)
    (i : Fin 256) (d : Fin 128) :
    blendO o a r x h (ix2 i d) = (o (ix2 i d) * a (ix2 i h) + x (ix2 i (hcol h d)) * r (ix2 i h) : EReal) := by
  pointwise [blendO, hcol]

/-- The eight columns side by side, at head `h`. -/
theorem cat8_apply (f : Fin 8 → FVec Ideal S256x1 .f32) (i : Fin 256) (h : Fin 8) : cat8 f (ix2 i h) = f h (ix2 i 0) := by
  unfold cat8
  refine concatenate_ofFn_unit_apply (t := S256x8) (s₁ := S256x1) 1 f _ rfl rfl (ix2 i h) h rfl (ix2 i 0) fun b hb => ?_
  match b with
  | 0 => rfl
  | 1 => exact absurd rfl hb

/-- The eight heads side by side, at column `d` of head `h`. -/
theorem cat1024_apply (f : Fin 8 → FVec Ideal S256x128 .f32) (i : Fin 256) (h : Fin 8) (d : Fin 128) :
    cat1024 f (ix2 i (hcol h d)) = f h (ix2 i d) := by
  unfold cat1024
  refine concatenate_ofFn_apply (t := S256x1024) (s₁ := S256x128) 1 f _ rfl 128 rfl (ix2 i (hcol h d)) h ?_ (ix2 i d) ?_ fun b hb => ?_
  · show (128 * (h : ℕ) + d) / 128 = h
    omega
  · show (d : ℕ) = (128 * (h : ℕ) + d) % 128
    omega
  match b with
  | 0 => rfl
  | 1 => exact absurd rfl hb

/-! ## The own part -/

/-- A query's entry. -/
def qry (I : Ins Ideal) (h : Fin 8) (i : Fin 256) (d : Fin 128) : EReal :=
  ∑ e : Fin 1024, (I.x (ix3 0 i e) : EReal) * I.wq (ix2 e (hcol h d))
/-- The score of query `i` of head `h` against the device's key `j`. -/
def sc (I : Ins Ideal) (h : Fin 8) (i : Fin 256) (j : Fin 4096) : EReal :=
  (∑ d : Fin 128, qry I h i d * I.k (ix2 j (kcol h d))) * scale
/-- The device's value `j` at column `d` of head `h`. -/
def vl (I : Ins Ideal) (h : Fin 8) (d : Fin 128) (j : Fin 4096) : EReal := I.v (ix2 j (kcol h d))

/-- The projected queries, at head `h`, row `i`, column `d`. -/
theorem V36_apply (I : Ins Ideal) (h : Fin 8) (i : Fin 256) (d : Fin 128) : V36 I (ix2 i (hcol h d)) = qry I h i d := by
  pointwise [V36, k0_pay1]
  rfl

/-- A column of a half of the keys or values is the array's column. -/
theorem kcol_emb (h : Fin 8) (j : Fin 4096) (d : Fin 128) {o : ℕ} (ho : o = 128 * ((h : ℕ) / 4)) (inb) :
    (Rect.unit (s := S4096x256) ![0, o] S4096x128.size inb).emb (ix2 j d) = ix2 j (kcol h d) := by
  subst ho
  funext a
  apply Fin.ext
  match a with
  | 0 => show 0 + 1 * (j : ℕ) = j; omega
  | 1 => show 128 * ((h : ℕ) / 4) + 1 * (d : ℕ) = 128 * ((h : ℕ) / 4) + d; omega

/-- Head `h`'s keys are its columns of the device's block of keys. -/
theorem keysOf_apply (I : Ins Ideal) (h : Fin 8) (j : Fin 4096) (d : Fin 128) : keysOf I h (ix2 j d) = I.k (ix2 j (kcol h d)) := by
  unfold keysOf
  split
  · pointwise [V38, k0_pay2, kcol0]
    exact congrArg I.k (kcol_emb h j d (by omega) _)
  · pointwise [V94, k0_pay25, kcol1]
    exact congrArg I.k (kcol_emb h j d (by omega) _)

/-- Head `h`'s values are its columns of the device's block of values. -/
theorem valsOf_apply (I : Ins Ideal) (h : Fin 8) (j : Fin 4096) (d : Fin 128) : valsOf I h (ix2 j d) = I.v (ix2 j (kcol h d)) := by
  unfold valsOf
  split
  · pointwise [V40, k0_pay3, kcol0]
    exact congrArg I.v (kcol_emb h j d (by omega) _)
  · pointwise [V96, k0_pay26, kcol1]
    exact congrArg I.v (kcol_emb h j d (by omega) _)

/-- The score of row `i` against the device's key `j`. -/
theorem scoreOf_apply (I : Ins Ideal) (h : Fin 8) (i : Fin 256) (j : Fin 4096) : scoreOf I h (ix2 i j) = sc I h i j := by
  unfold scoreOf
  rw [score_apply]
  unfold sc
  refine congrArg (· * scale) (Finset.sum_congr rfl fun d _ => ?_)
  rw [keysOf_apply, ← V36_apply]
  refine congrArg (· * I.k (ix2 j (kcol h d))) ?_
  pointwise [hcol]

/-- The level of query `i` of head `h` over the device's keys. -/
def lvl (I : Ins Ideal) (h : Fin 8) (i : Fin 256) : EReal := top (sc I h i)

/-- A row of scores as a function of the key. -/
theorem scoreOf_row (I : Ins Ideal) (h : Fin 8) (i : Fin 256) : (fun j => scoreOf I h (ix2 i j)) = sc I h i :=
  funext fun j => scoreOf_apply I h i j

/-- The own levels. -/
theorem V149_apply (I : Ins Ideal) (h : Fin 8) (i : Fin 256) : V149 I (ix2 i h) = lvl I h i := by
  rw [V149_eq, cat8_apply, rowMax_apply, scoreOf_row, lvl]
/-- The own sums. -/
theorem V150_apply (I : Ins Ideal) (h : Fin 8) (i : Fin 256) : V150 I (ix2 i h) = mass (sc I h i) (lvl I h i) := by
  rw [V150_eq, cat8_apply, rowSum_apply, scoreOf_row, lvl]
/-- The own weighted values. -/
theorem O0_apply (I : Ins Ideal) (h : Fin 8) (i : Fin 256) (d : Fin 128) :
    O0 I h (ix2 i d) = part (sc I h i) (vl I h d) (lvl I h i) := by
  unfold O0
  rw [rowVal_apply, scoreOf_row, show (fun j => valsOf I h (ix2 j d)) = vl I h d from funext fun j => valsOf_apply I h j d, lvl]
/-- The own weighted values at head `h`, row `i`, column `d` are a partial sum at the own level. -/
theorem V152_apply (I : Ins Ideal) (h : Fin 8) (i : Fin 256) (d : Fin 128) :
    V152 I (ix2 i (hcol h d)) = part (sc I h i) (vl I h d) (lvl I h i) := by
  rw [V152_eq, ← O0_apply]
  exact cat1024_apply (O0 I) i h d

/-! ## The parts received -/

/-- What a device receives, from the inputs of the three devices it receives from. -/
def gotOf (J : Fin 4 → Ins Ideal) : Got Ideal where
  m1 := k0_pay49 (V149 (J 1))
  l1 := k0_pay50 (V150 (J 1))
  o1 := k0_pay48 (V152 (J 1))
  m2 := k0_pay49 (V149 (J 2))
  l2 := k0_pay50 (V150 (J 2))
  o2 := k0_pay48 (V152 (J 2))
  m3 := k0_pay49 (V149 (J 3))
  l3 := k0_pay50 (V150 (J 3))
  o3 := k0_pay48 (V152 (J 3))

/-- The level a device sends is its own. -/
theorem flat_m (I : Ins Ideal) (h : Fin 8) (i : Fin 256) : flat8 (k0_pay49 (V149 I)) (ix2 i h) = lvl I h i := by
  rw [← V149_apply]
  pointwise [flat8, k0_pay49]
/-- The sum a device sends is its mass at its own level. -/
theorem flat_l (I : Ins Ideal) (h : Fin 8) (i : Fin 256) : flat8 (k0_pay50 (V150 I)) (ix2 i h) = mass (sc I h i) (lvl I h i) := by
  rw [← V150_apply]
  pointwise [flat8, k0_pay50]
/-- The weighted values a device sends are its partial sum at its own level. -/
theorem flat_o (I : Ins Ideal) (h : Fin 8) (i : Fin 256) (d : Fin 128) :
    flat1024 (k0_pay48 (V152 I)) (ix2 i (hcol h d)) = part (sc I h i) (vl I h d) (lvl I h i) := by
  rw [← V152_apply]
  pointwise [flat1024, k0_pay48]

/-- A rescaling factor is the exponential of the difference of the levels. -/
theorem factor_apply (a b : FVec Ideal S256x8 .f32) (i : Fin 256) (h : Fin 8) :
    factor a b (ix2 i h) = Ideal.exp (a (ix2 i h) - b (ix2 i h)) := by
  pointwise [factor]
/-- A combined sum is the two sums, each times its factor. -/
theorem blendL_apply (l a lr r : FVec Ideal S256x8 .f32) (i : Fin 256) (h : Fin 8) :
    blendL l a lr r (ix2 i h) = (l (ix2 i h) * a (ix2 i h) + lr (ix2 i h) * r (ix2 i h) : EReal) := by
  pointwise [blendL]
/-- The larger of two levels, entry by entry. -/
theorem maximumf_apply' (a b : FVec Ideal S256x8 .f32) (i : Fin 256) (h : Fin 8) :
    maximumf a b (ix2 i h) = (max (a (ix2 i h)) (b (ix2 i h)) : EReal) := by
  pointwise

variable (J : Fin 4 → Ins Ideal) (h : Fin 8) (i : Fin 256) (d : Fin 128)

/-- The level after the first step is the larger of the first two devices' levels. -/
theorem V268_apply : V268 (J 0) (gotOf J) (ix2 i h) = max (lvl (J 0) h i) (lvl (J 1) h i) := by
  rw [V268_eq, maximumf_apply', V149_apply]
  exact congrArg _ (flat_m (J 1) h i)
/-- The level after the second step is the largest of the first three devices' levels. -/
theorem V347_apply : V347 (J 0) (gotOf J) (ix2 i h) = max (max (lvl (J 0) h i) (lvl (J 1) h i)) (lvl (J 2) h i) := by
  rw [V347_eq, maximumf_apply', V268_apply]
  exact congrArg _ (flat_m (J 2) h i)
/-- The level after the third step is the largest of all four devices' levels. -/
theorem M3_apply : M3 (J 0) (gotOf J) (ix2 i h) = top4 fun p => lvl (J p) h i := by
  unfold M3
  rw [maximumf_apply', V347_apply]
  exact congrArg _ (flat_m (J 3) h i)

/-- The sums after the three steps. -/
theorem V457_apply : V457 (J 0) (gotOf J) (ix2 i h)
    = blend4 (fun p => mass (sc (J p) h i) (lvl (J p) h i)) fun p => lvl (J p) h i := by
  rw [V457_eq, V354_eq, V275_eq]
  simp only [blendL_apply, factor_apply, V268_apply, V347_apply, M3_apply, V149_apply, V150_apply]
  simp only [gotOf, flat_m, flat_l]
  rfl
/-- The weighted values after the three steps. -/
theorem O3_apply : O3 (J 0) (gotOf J) h (ix2 i d)
    = blend4 (fun p => part (sc (J p) h i) (vl (J p) h d) (lvl (J p) h i)) fun p => lvl (J p) h i := by
  unfold O3 O2 O1
  simp only [blendO_apply, factor_apply, V268_apply, V347_apply, M3_apply, V149_apply, O0_apply]
  simp only [gotOf, flat_m, flat_o]
  rfl

/-- The attention of query `i` at column `d` of head `h`: the weighted values over the sum. -/
theorem quot_apply : quot (J 0) (gotOf J) h (ix2 i d)
    = Ideal.div (∑ p, part (sc (J p) h i) (vl (J p) h d) (top4 fun p => lvl (J p) h i))
        (∑ p, mass (sc (J p) h i) (top4 fun p => lvl (J p) h i)) := by
  have e : quot (J 0) (gotOf J) h (ix2 i d) = Ideal.div (O3 (J 0) (gotOf J) h (ix2 i d)) (V457 (J 0) (gotOf J) (ix2 i h)) := by
    pointwise [quot]
  rw [e, O3_apply, V457_apply, blend4_eq (fun p => part (sc (J p) h i) (vl (J p) h d)) (fun p => lvl (J p) h i) fun p => rises_part _ _,
    blend4_eq (fun p => mass (sc (J p) h i)) (fun p => lvl (J p) h i) fun p => rises_mass _]

/-- The device's result at an index. -/
theorem outV_apply (c : Fin 1024) (z : Fin 1) : outV (J 0) (gotOf J) (ix3 z i c)
    = ∑ e : Fin 1024, (cat1024 (quot (J 0) (gotOf J)) (ix2 i e) * (J 0).wo (ix2 e c) : EReal) := by
  rw [outV_eq]
  pointwise

end Cert.RingAttn

end
-- ==== Proof.Inputs.lean ====
/-
# What the kernel's operands hold

Each operand of the kernel is an argument array of the program, the keys and values with their two heads side by side.
-/
module

public import proofs.«01_k».proof.Proof.Launch
public import proofs.«01_k».proof.Proof.HeadValue
public import Idealize.ShloMosaic.Lib.Pipeline.ValueKit
public import Idealize.ShloMosaic.Lib.Claim

@[expose] public section

noncomputable section

namespace Cert.RingAttn

open Cert.KernelIdeal Cert.KernelIdeal.Gen

open Idealize.ShloMosaic Idealize.ShloMosaic.TcCoe Idealize.ShloMosaic.Tactic

variable (m : (l : Loc nD τ sig) → Buf (Elt Ideal) l) (c : Dev nD)

/-- The one point of the grid reads every window's block at the origin. -/
theorem idx : win0_0.index t0_0 = ![0, 0, 0] ∧ win0_1.index t0_0 = ![0, 0] ∧ win0_2.index t0_0 = ![0, 0]
    ∧ win0_3.index t0_0 = ![0, 0] ∧ win0_4.index t0_0 = ![0, 0] := by decide +kernel

/-- The staged rows are the first argument's. -/
theorem ins_x (i : Fin 256) (e : Fin 1024) : (insOf m c).x (ix3 0 i e) = m ((c : Thread nD τ).loc main_arg0) (ix3 0 i e) := by
  show iblk m c 0 t0_0 (ix3 0 i e) = _
  blk_ext [iblk, V, idx]
/-- The staged query projection is the second argument. -/
theorem ins_wq (e d : Fin 1024) : (insOf m c).wq (ix2 e d) = m ((c : Thread nD τ).loc main_arg1) (ix2 e d) := by
  show iblk m c 1 t0_0 (ix2 e d) = _
  blk_ext [iblk, V, idx]
/-- The staged output projection is the fifth argument. -/
theorem ins_wo (e d : Fin 1024) : (insOf m c).wo (ix2 e d) = m ((c : Thread nD τ).loc main_arg4) (ix2 e d) := by
  show iblk m c 2 t0_0 (ix2 e d) = _
  blk_ext [iblk, V, idx]
/-- The staged keys are the device's keys, the two key heads side by side. -/
theorem ins_k (j : Fin 4096) (h : Fin 8) (d : Fin 128) :
    (insOf m c).k (ix2 j (kcol h d)) = m ((c : Thread nD τ).loc main_arg2) (ix4 0 j ⟨h / 4, by omega⟩ d) := by
  show iblk m c 3 t0_0 (ix2 j (kcol h d)) = _
  blk_ext! [iblk, V, kcol, idx]
/-- The staged values are the device's values, the two key heads side by side. -/
theorem ins_v (j : Fin 4096) (h : Fin 8) (d : Fin 128) :
    (insOf m c).v (ix2 j (kcol h d)) = m ((c : Thread nD τ).loc main_arg3) (ix4 0 j ⟨h / 4, by omega⟩ d) := by
  show iblk m c 4 t0_0 (ix2 j (kcol h d)) = _
  blk_ext! [iblk, V, kcol, idx]

end Cert.RingAttn

end
-- ==== Proof.RefValue.lean ====
/-
# The reference's value at an index

The reference's composed term is named piece by piece — queries, repeated keys and values, scores, levels, weights, quotient — and
read at an index over the extended reals.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.RingAttn.Ref

open Cert.ReferenceIdeal Cert.ReferenceIdeal.Gen

open Idealize.ShloMosaic

/-- The queries, head by head. -/
def qs (x : FVec Ideal S1x256x1024 .f32) (wq : FVec Ideal S1024x1024 .f32) : FVec Ideal S1x256x8x128 .f32 :=
  shapeCast _ (Host.dotGeneral dot_S1x256x1024_S1024x1024_S1x256x1024_2_0_01_1_n_n none x wq) shapeCasts_S1x256x1024_S1x256x8x128
/-- Keys or values repeated for the four heads that share them. -/
def rep (k : FVec Ideal S1x16384x2x128 .f32) : FVec Ideal S1x16384x8x128 .f32 :=
  shapeCast _ (broadcastInDim S1x16384x2x4x128 ![0, 1, 2, 4] bcast_S1x16384x2x128_S1x16384x2x4x128_0_1_2_4 k) shapeCasts_S1x16384x2x4x128_S1x16384x8x128
/-- The scaled scores. -/
def scores (q : FVec Ideal S1x256x8x128 .f32) (k : FVec Ideal S1x16384x8x128 .f32) : FVec Ideal S1x8x256x16384 .f32 :=
  mulf (Host.dotGeneral dot_S1x256x8x128_S1x16384x8x128_S1x8x256x16384_3_3_1_1_02_02 none q k)
    (broadcastInDim S1x8x256x16384 ![] bcast_S_S1x8x256x16384 (constant S_ .f32 0x3DB504F3#32))
/-- The largest score of each row. -/
def levels (s : FVec Ideal S1x8x256x16384 .f32) : FVec Ideal S1x8x256 .f32 :=
  Host.reduce FloatOps.maximumf s (constant S_ .f32 0xFF800000#32) reducesTo_S1x8x256x16384_S1x8x256_d3 h_S_
/-- The weights. -/
def weights (s : FVec Ideal S1x8x256x16384 .f32) : FVec Ideal S1x8x256x16384 .f32 :=
  Host.exp (subf s (broadcastInDim S1x8x256x16384 ![0, 1, 2, 3] bcast_S1x8x256x1_S1x8x256x16384_0_1_2_3
    (broadcastInDim S1x8x256x1 ![0, 1, 2] bcast_S1x8x256_S1x8x256x1_0_1_2 (levels s))))
/-- The attention: the weighted values over the sums of the weights. -/
def attn (s : FVec Ideal S1x8x256x16384 .f32) (v : FVec Ideal S1x16384x8x128 .f32) : FVec Ideal S1x256x8x128 .f32 :=
  Host.divf (transpose S1x256x8x128 [0, 3, 1, 2] (Host.dotGeneral dot_S1x16384x8x128_S1x8x256x16384_S1x8x128x256_1_3_3_2_02_01 none v (weights s))
      transposes_S1x8x128x256_S1x256x8x128_0_3_1_2)
    (broadcastInDim S1x256x8x128 ![0, 1, 2, 3] bcast_S1x256x8x1_S1x256x8x128_0_1_2_3
      (transpose S1x256x8x1 [0, 2, 1, 3] (broadcastInDim S1x8x256x1 ![0, 1, 2] bcast_S1x8x256_S1x8x256x1_0_1_2
        (Host.reduceAdd (weights s) (constant S_ .f32 0x00000000#32) reducesTo_S1x8x256x16384_S1x8x256_d3 h_S_))
        transposes_S1x8x256x1_S1x256x8x1_0_2_1_3))
/-- The result: the heads side by side against the output projection. -/
def proj (o : FVec Ideal S1x256x8x128 .f32) (wo : FVec Ideal S1024x1024 .f32) : FVec Ideal S1x256x1024 .f32 :=
  Host.dotGeneral dot_S1x256x1024_S1024x1024_S1x256x1024_2_0_01_1_n_n none (shapeCast _ o shapeCasts_S1x256x8x128_S1x256x1024) wo

/-- The reference's result is these pieces put together. -/
theorem res_eq (m : (ℓ : Loc nD τ sig) → Buf (Elt Ideal) ℓ) (c : Dev nD) :
    Value.res_out0 m c = proj (attn (scores
        (qs (extf .f32 (m ((c.tc : Thread nD τ).loc main_arg0)) bitsLt_bf16_f32) (extf .f32 (m ((c.tc : Thread nD τ).loc main_arg1)) bitsLt_bf16_f32))
        (rep (extf .f32 (m ((c.tc : Thread nD τ).loc main_arg2)) bitsLt_bf16_f32)))
      (rep (extf .f32 (m ((c.tc : Thread nD τ).loc main_arg3)) bitsLt_bf16_f32)))
      (extf .f32 (m ((c.tc : Thread nD τ).loc main_arg4)) bitsLt_bf16_f32) := rfl

/-- A query's entry: the product of its row and the head's column. -/
theorem qs_apply (x : FVec Ideal S1x256x1024 .f32) (wq : FVec Ideal S1024x1024 .f32) (i : Fin 256) (h : Fin 8) (d : Fin 128) :
    qs x wq (ix4 0 i h d) = ∑ e : Fin 1024, (x (ix3 0 i e) * wq (ix2 e ⟨128 * h + d, by omega⟩) : EReal) := by
  pointwise [qs]
  simp only [mul_comm (h : ℕ) 128]

/-- Head `h` reads the keys and values of its group of four. -/
theorem rep_apply (k : FVec Ideal S1x16384x2x128 .f32) (j : Fin 16384) (h : Fin 8) (d : Fin 128) :
    rep k (ix4 0 j h d) = k (ix4 0 j ⟨h / 4, by omega⟩ d) := by
  pointwise [rep]

/-- A score is the scaled sum of products of the query's row and the key's. -/
theorem scores_apply (q : FVec Ideal S1x256x8x128 .f32) (k : FVec Ideal S1x16384x8x128 .f32) (h : Fin 8) (i : Fin 256) (j : Fin 16384) :
    scores q k (ix4 0 h i j) = (∑ d : Fin 128, q (ix4 0 i h d) * k (ix4 0 j h d) : EReal) * scale := by
  unfold scale
  pointwise [scores]

/-- A row's level is its largest score. -/
theorem levels_apply (s : FVec Ideal S1x8x256x16384 .f32) (h : Fin 8) (i : Fin 256) :
    levels s (ix3 0 h i) = top fun j => s (ix4 0 h i j) := by
  pointwise [levels]
  exact congrArg (fun b : EReal => Finset.fold max b (fun x => s (ix4 0 h i x)) Finset.univ) negInf

/-- The attention at an index: the row's weighted values over its mass, both at the row's level. -/
theorem attn_apply (s : FVec Ideal S1x8x256x16384 .f32) (v : FVec Ideal S1x16384x8x128 .f32) (i : Fin 256) (h : Fin 8) (d : Fin 128) :
    attn s v (ix4 0 i h d) = Ideal.div (part (fun j => s (ix4 0 h i j)) (fun j => v (ix4 0 j h d)) (top fun j => s (ix4 0 h i j)))
      (mass (fun j => s (ix4 0 h i j)) (top fun j => s (ix4 0 h i j))) := by
  pointwise [attn, weights]
  rw [levels_apply]
  unfold part mass
  have e : ∀ j : Fin 16384, (v (ix4 0 j h d) : EReal) * Ideal.exp (s (ix4 0 h i j) - top fun j => s (ix4 0 h i j))
      = Ideal.exp (s (ix4 0 h i j) - top fun j => s (ix4 0 h i j)) * v (ix4 0 j h d) := fun j => mul_comm _ _
  rw [Finset.sum_congr rfl fun j _ => e j]

/-- The result at an index. -/
theorem proj_apply (o : FVec Ideal S1x256x8x128 .f32) (wo : FVec Ideal S1024x1024 .f32) (z : Fin 1) (i : Fin 256) (c : Fin 1024) :
    proj o wo (ix3 z i c) = ∑ e : Fin 1024, (o (ix4 0 i ⟨e / 128, by omega⟩ ⟨e % 128, by omega⟩) * wo (ix2 e c) : EReal) := by
  pointwise [proj]

/-! ## The result in terms of the arguments -/

variable (x : FVec Ideal S1x256x1024 .bf16) (wq wo : FVec Ideal S1024x1024 .bf16) (k v : FVec Ideal S1x16384x2x128 .bf16)

/-- The score of query `i` of head `h` against key `j`. -/
def row (h : Fin 8) (i : Fin 256) (j : Fin 16384) : EReal :=
  (∑ d : Fin 128, (∑ e : Fin 1024, (x (ix3 0 i e) : EReal) * wq (ix2 e ⟨128 * h + d, by omega⟩)) * k (ix4 0 j ⟨h / 4, by omega⟩ d)) * scale
/-- The value `j` at column `d` of head `h`. -/
def val (h : Fin 8) (d : Fin 128) (j : Fin 16384) : EReal := v (ix4 0 j ⟨h / 4, by omega⟩ d)
/-- The attention of query `i` at column `d` of head `h`. -/
def att (h : Fin 8) (i : Fin 256) (d : Fin 128) : EReal :=
  Ideal.div (part (row x wq k h i) (val v h d) (top (row x wq k h i))) (mass (row x wq k h i) (top (row x wq k h i)))

/-- The reference's result at an index. -/
theorem res_apply (z : Fin 1) (i : Fin 256) (c : Fin 1024) :
    proj (attn (scores (qs (extf .f32 x bitsLt_bf16_f32) (extf .f32 wq bitsLt_bf16_f32)) (rep (extf .f32 k bitsLt_bf16_f32)))
      (rep (extf .f32 v bitsLt_bf16_f32))) (extf .f32 wo bitsLt_bf16_f32) (ix3 z i c)
      = ∑ e : Fin 1024, att x wq k v ⟨e / 128, by omega⟩ i ⟨e % 128, by omega⟩ * wo (ix2 e c) := by
  rw [proj_apply]
  refine Finset.sum_congr rfl fun e _ => ?_
  rw [attn_apply]
  simp only [scores_apply, qs_apply, rep_apply]
  rfl

end Cert.RingAttn.Ref

end
-- ==== Proof.Algebraic.lean ====
/-
# The kernel computes the reference's attention

Over the extended reals every device's result is the reference's: each device's row of scores is one of four blocks of the
reference's row, and the three combining steps add up the four blocks at the largest score of the whole row.
-/
module

public import proofs.«01_k».proof.Defs
public import proofs.«01_k».proof.Proof.Frames
public import proofs.«01_k».proof.Proof.Inputs
public import proofs.«01_k».proof.Proof.RefValue
public import Idealize.ShloMosaic.Lib.Layout

@[expose] public section

set_option maxRecDepth 16384

noncomputable section

namespace Cert.RingAttn

open Idealize.ShloMosaic Idealize.ShloMosaic.TcCoe Idealize.SL.Sem

/-- The four devices in the order device `c` combines them. -/
def order (c : Fin 4) : Fin 4 ≃ Fin 4 where
  toFun p := src p.val c
  invFun q := match (q.val + 4 - c.val) % 4 with
    | 0 => 0
    | 1 => 2
    | 2 => 3
    | _ => 1
  left_inv := by revert c; decide
  right_inv := by revert c; decide

variable (x : FVec Ideal ⟨3, ![1, 256, 1024]⟩ .bf16) (wq wo : FVec Ideal ⟨2, ![1024, 1024]⟩ .bf16)
  (k v : FVec Ideal ⟨4, ![1, 16384, 2, 128]⟩ .bf16)

/-- The operands of device `q`: the inputs, the keys and values being block `q` of the whole arrays. -/
structure Holds (I : Ins Ideal) (q : Fin 4) : Prop where
  x : ∀ i e, I.x (ix3 0 i e) = x (ix3 0 i e)
  wq : ∀ e d, I.wq (ix2 e d) = wq (ix2 e d)
  wo : ∀ e d, I.wo (ix2 e d) = wo (ix2 e d)
  k : ∀ (j : Fin 4096) (h : Fin 8) (d : Fin 128), I.k (ix2 j (kcol h d)) = k (ix4 0 ⟨q * 4096 + j, by omega⟩ ⟨h / 4, by omega⟩ d)
  v : ∀ (j : Fin 4096) (h : Fin 8) (d : Fin 128), I.v (ix2 j (kcol h d)) = v (ix4 0 ⟨q * 4096 + j, by omega⟩ ⟨h / 4, by omega⟩ d)

variable {x wq wo k v}

/-- A device's scores are its block of the reference's row. -/
theorem Holds.sc {I : Ins Ideal} {q : Fin 4} (H : Holds x wq wo k v I q) (h : Fin 8) (i : Fin 256) :
    sc I h i = blk (Ref.row x wq k h i) q := by
  funext j
  unfold RingAttn.sc qry blk Ref.row
  refine congrArg (· * scale) (Finset.sum_congr rfl fun d _ => ?_)
  rw [H.k]
  refine congrArg (· * k (ix4 0 ⟨q * 4096 + j, by omega⟩ ⟨h / 4, by omega⟩ d)) (Finset.sum_congr rfl fun e _ => ?_)
  rw [H.x, H.wq]
  rfl

/-- A device's values are its block of the reference's. -/
theorem Holds.vl {I : Ins Ideal} {q : Fin 4} (H : Holds x wq wo k v I q) (h : Fin 8) (d : Fin 128) :
    vl I h d = blk (Ref.val v h d) q :=
  funext fun j => H.v j h d

/-- A device's attention, combined from the four blocks in its own order, is the reference's. -/
theorem quot_eq {J : Fin 4 → Ins Ideal} (σ : Fin 4 ≃ Fin 4) (H : ∀ p, Holds x wq wo k v (J p) (σ p)) (h : Fin 8) (i : Fin 256)
    (d : Fin 128) : quot (J 0) (gotOf J) h (ix2 i d) = Ref.att x wq k v h i d := by
  have es : ∀ p, sc (J p) h i = blk (Ref.row x wq k h i) (σ p) := fun p => (H p).sc h i
  have ev : ∀ p, vl (J p) h d = blk (Ref.val v h d) (σ p) := fun p => (H p).vl h d
  have et : (top4 fun p => lvl (J p) h i) = top (Ref.row x wq k h i) := by
    unfold lvl
    simp only [es]
    exact top4_blk _ σ
  rw [quot_apply, et]
  simp only [es, ev]
  rw [part_blk, mass_blk]
  rfl

/-- So is its result. -/
theorem outV_value {J : Fin 4 → Ins Ideal} (σ : Fin 4 ≃ Fin 4) (H : ∀ p, Holds x wq wo k v (J p) (σ p)) (z : Fin 1) (i : Fin 256)
    (c : Fin 1024) : outV (J 0) (gotOf J) (ix3 z i c)
      = ∑ e : Fin 1024, Ref.att x wq k v ⟨e / 128, by omega⟩ i ⟨e % 128, by omega⟩ * wo (ix2 e c) := by
  rw [outV_apply]
  refine Finset.sum_congr rfl fun e _ => ?_
  rw [(H 0).wo, ← quot_eq σ H, ← cat1024_apply (quot (J 0) (gotOf J))]
  have he : hcol ⟨e / 128, by omega⟩ ⟨e % 128, by omega⟩ = e := Fin.ext (by
    show 128 * ((e : ℕ) / 128) + e % 128 = e
    omega)
  rw [he]

/-- Block `q` of an array of keys or values, at an index. -/
theorem block_at (w : FVec Ideal ⟨4, ![1, 16384, 2, 128]⟩ .bf16) (q : Fin 4) (j : Fin 4096) (g : Fin 2) (d : Fin 128) :
    Layout.block ⟨4, ![1, 4096, 2, 128]⟩ ⟨4, ![1, 16384, 2, 128]⟩ 1 4 q w (by decide) (ix4 0 j g d)
      = w (ix4 0 ⟨q * 4096 + j, by omega⟩ g d) := by
  rw [Layout.block_apply]
  refine congrArg w (funext fun b => Fin.ext ?_)
  match b with
  | 0 => rfl
  | 1 => rfl
  | 2 => rfl
  | 3 => rfl

/-- From related memories the kernel ends with the reference's result on every device, and the reference with the same. -/
theorem algebraic : Cert.algebraic_KernelIdeal_ReferenceIdeal := by
  intro m g m' g' _ hm
  refine ⟨Cert.ReferenceIdeal.Value.res_out0 m' 0, ?_, ?_⟩
  · refine (θ_run (Cert.KernelIdeal.defs (F := Ideal)) _ _).mono (fun r h c => ⟨(h.1 c).2.trans ?_, (h.1 c).1⟩) (run_main m g)
    have H : ∀ q : Fin 4, Holds _ _ _ _ _ (insOf m q) q := fun q =>
      { x := fun i e => (ins_x m q i e).trans (congrFun (hm q).1 _)
        wq := fun e d => (ins_wq m q e d).trans (congrFun (hm q).2.1 _)
        wo := fun e d => (ins_wo m q e d).trans (congrFun (hm q).2.2.2.2 _)
        k := fun j h d => (ins_k m q j h d).trans ((congrFun (hm q).2.2.1 _).trans (block_at _ q j _ d))
        v := fun j h d => (ins_v m q j h d).trans ((congrFun (hm q).2.2.2.1 _).trans (block_at _ q j _ d)) }
    funext y
    obtain ⟨z, i, e, rfl⟩ : ∃ (z : Fin 1) (i : Fin 256) (e : Fin 1024), y = ix3 z i e := ⟨y 0, y 1, y 2, eq_ix3 y⟩
    rw [Ref.res_eq]
    refine Eq.trans ?_ (Ref.res_apply _ _ _ _ _ z i e).symm
    exact outV_value (J := fun p => insOf m (order c p)) (order c) (fun p => H (order c p)) z i e
  · exact (θ_run (Cert.ReferenceIdeal.defs (F := Ideal)) _ _).mono (fun r h => h 0) (Cert.ReferenceIdeal.Value.run (F := Ideal) m' g')

end Cert.RingAttn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨Cert.RingAttn.frame_bits, Cert.RingAttn.frame_ideal, Cert.RingAttn.frame_reference, trivial, Cert.RingAttn.algebraic⟩⟩

end Cert.Proof

end
